-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.Statement Cert.KernelIdeal.S1x256x2x128 Cert.KernelIdeal.S1x256x1x128
  ∧ IdealRules.bf16_pair.Statement Cert.KernelIdeal.S512x128 Cert.KernelIdeal.S256x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v9_1) = v1 c
          ∧ r.2.mem ((c.tc : Thread Cert.ReferenceIdeal.nD Cert.ReferenceIdeal.τ).loc Cert.ReferenceIdeal.main_v9_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x12288x4096 : Shape := ⟨3, ![5, 12288, 4096]⟩
abbrev S5x12288x4x256 : Shape := ⟨4, ![5, 12288, 4, 256]⟩
abbrev S5x12288x32 : Shape := ⟨3, ![5, 12288, 32]⟩
abbrev S32 : Shape := ⟨1, ![32]⟩
abbrev S5x32x128x256 : Shape := ⟨4, ![5, 32, 128, 256]⟩
abbrev S5x32x128 : Shape := ⟨3, ![5, 32, 128]⟩
abbrev S5x12288x4x2x128 : Shape := ⟨5, ![5, 12288, 4, 2, 128]⟩
abbrev S5x12288x2x4x128 : Shape := ⟨5, ![5, 12288, 2, 4, 128]⟩
abbrev S5x98304x128 : Shape := ⟨3, ![5, 98304, 128]⟩
abbrev S5x32x12288 : Shape := ⟨3, ![5, 32, 12288]⟩
abbrev S1x32 : Shape := ⟨2, ![1, 32]⟩
abbrev S1x512x4096 : Shape := ⟨3, ![1, 512, 4096]⟩
abbrev S1x4096x128 : Shape := ⟨3, ![1, 4096, 128]⟩
abbrev S1x32x512 : Shape := ⟨3, ![1, 32, 512]⟩
abbrev S1x32x128x256 : Shape := ⟨4, ![1, 32, 128, 256]⟩
abbrev S1x32x128 : Shape := ⟨3, ![1, 32, 128]⟩
abbrev S4096x256 : Shape := ⟨2, ![4096, 256]⟩
abbrev S32x128 : Shape := ⟨2, ![32, 128]⟩
abbrev S512x32 : Shape := ⟨2, ![512, 32]⟩
abbrev S4x512x256 : Shape := ⟨3, ![4, 512, 256]⟩
abbrev S32x32 : Shape := ⟨2, ![32, 32]⟩
abbrev S32x1 : Shape := ⟨2, ![32, 1]⟩
abbrev S1x1x128x256 : Shape := ⟨4, ![1, 1, 128, 256]⟩
abbrev S128x256 : Shape := ⟨2, ![128, 256]⟩
abbrev S128x128 : Shape := ⟨2, ![128, 128]⟩
abbrev S128x32 : Shape := ⟨2, ![128, 32]⟩
abbrev S4096x128 : Shape := ⟨2, ![4096, 128]⟩
abbrev S2048x128 : Shape := ⟨2, ![2048, 128]⟩
abbrev S256x128 : Shape := ⟨2, ![256, 128]⟩
abbrev S1x2048x2x128 : Shape := ⟨4, ![1, 2048, 2, 128]⟩
abbrev S1x256x2x128 : Shape := ⟨4, ![1, 256, 2, 128]⟩
abbrev S1x256x1x128 : Shape := ⟨4, ![1, 256, 1, 128]⟩
abbrev S512x128 : Shape := ⟨2, ![512, 128]⟩
abbrev S1x512x128 : Shape := ⟨3, ![1, 512, 128]⟩
abbrev S256x256 : Shape := ⟨2, ![256, 256]⟩
abbrev S1x256x256 : Shape := ⟨3, ![1, 256, 256]⟩
abbrev S1x1x128 : Shape := ⟨3, ![1, 1, 128]⟩
abbrev S1x128 : Shape := ⟨2, ![1, 128]⟩
abbrev S256x1 : Shape := ⟨2, ![256, 1]⟩
abbrev S1x256x128 : Shape := ⟨3, ![1, 256, 128]⟩
abbrev S128 : Shape := ⟨1, ![128]⟩
abbrev S128x1 : Shape := ⟨2, ![128, 1]⟩
abbrev S1x1 : Shape := ⟨2, ![1, 1]⟩

abbrev nBuf : Space → Nat
  | .hbm => 15
  | .vmem => 24
  | .smem => 0
  | _ => 0

abbrev bufTy : (tb : Table) → Fin (tcTables nBuf tb) → BufTy
  | .hbm, ⟨0, _⟩ => ⟨S5x12288x4096, .bf16⟩
  | .hbm, ⟨1, _⟩ => ⟨S5x12288x4x256, .bf16⟩
  | .hbm, ⟨2, _⟩ => ⟨S5x12288x32, .f32⟩
  | .hbm, ⟨3, _⟩ => ⟨S32, .f32⟩
  | .hbm, ⟨4, _⟩ => ⟨S5x32x128x256, .fp8e4m3⟩
  | .hbm, ⟨5, _⟩ => ⟨S5x32x128, .f32⟩
  | .hbm, ⟨6, _⟩ => ⟨S5x32x128x256, .f32⟩
  | .hbm, ⟨7, _⟩ => ⟨S5x12288x4x2x128, .bf16⟩
  | .hbm, ⟨8, _⟩ => ⟨S5x12288x2x4x128, .bf16⟩
  | .hbm, ⟨9, _⟩ => ⟨S5x98304x128, .bf16⟩
  | .hbm, ⟨10, _⟩ => ⟨S5x32x12288, .f32⟩
  | .hbm, ⟨11, _⟩ => ⟨S1x32, .f32⟩
  | .hbm, ⟨12, _⟩ => ⟨S5x12288x4096, .bf16⟩
  | .hbm, ⟨13, _⟩ => ⟨S5x32x128x256, .fp8e4m3⟩
  | .hbm, ⟨14, _⟩ => ⟨S5x32x128, .f32⟩
  | .local _ .vmem, ⟨0, _⟩ => ⟨S1x512x4096, .bf16⟩
  | .local _ .vmem, ⟨1, _⟩ => ⟨S1x512x4096, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x32x512, .f32⟩
  | .local _ .vmem, ⟨5, _⟩ => ⟨S1x32x512, .f32⟩
  | .local _ .vmem, ⟨6, _⟩ => ⟨S1x32, .f32⟩
  | .local _ .vmem, ⟨7, _⟩ => ⟨S1x32x128x256, .fp8e4m3⟩
  | .local _ .vmem, ⟨8, _⟩ => ⟨S1x32x128x256, .fp8e4m3⟩
  | .local _ .vmem, ⟨9, _⟩ => ⟨S1x32x128, .f32⟩
  | .local _ .vmem, ⟨10, _⟩ => ⟨S1x32x128, .f32⟩
  | .local _ .vmem, ⟨11, _⟩ => ⟨S1x32x128x256, .f32⟩
  | .local _ .vmem, ⟨12, _⟩ => ⟨S1x32x128x256, .f32⟩
  | .local _ .vmem, ⟨13, _⟩ => ⟨S1x512x4096, .bf16⟩
  | .local _ .vmem, ⟨14, _⟩ => ⟨S1x512x4096, .bf16⟩
  | .local _ .vmem, ⟨15, _⟩ => ⟨S1x32x128x256, .fp8e4m3⟩
  | .local _ .vmem, ⟨16, _⟩ => ⟨S1x32x128x256, .fp8e4m3⟩
  | .local _ .vmem, ⟨17, _⟩ => ⟨S1x32x128, .f32⟩
  | .local _ .vmem, ⟨18, _⟩ => ⟨S1x32x128, .f32⟩
  | .local _ .vmem, ⟨19, _⟩ => ⟨S4096x256, .bf16⟩
  | .local _ .vmem, ⟨20, _⟩ => ⟨S32x128, .f32⟩
  | .local _ .vmem, ⟨21, _⟩ => ⟨S32x128, .f32⟩
  | .local _ .vmem, ⟨22, _⟩ => ⟨S512x32, .f32⟩
  | .local _ .vmem, ⟨23, _⟩ => ⟨S4x512x256, .bf16⟩
  | _, _ => ⟨S5x12288x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [BitOps F]

abbrev grid0 : Pipeline.Grid := ⟨2, ![5, 24], ![false, false]⟩

def k0_cond2 (i : grid0.Coords) : BitVec 1 :=
  let arg1 : BitVec 32 := BitVec.ofNat 32 (i 1).val
  let c23_i32 : BitVec 32 := 23#32
  let v1478 : BitVec 1 := Scalar.cmpi .eq arg1 c23_i32
  let v1479 : BitVec 32 := Scalar.extui v1478
  let c0_i32_982 : BitVec 32 := 0#32
  let v1480 : BitVec 1 := Scalar.cmpi .ne v1479 c0_i32_982
  v1480

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x128x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x128x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F]
-- ==== ReferenceIdeal.lean ====
abbrev S5x12288x4096 : Shape := ⟨3, ![5, 12288, 4096]⟩
abbrev S5x12288x4x256 : Shape := ⟨4, ![5, 12288, 4, 256]⟩
abbrev S5x12288x32 : Shape := ⟨3, ![5, 12288, 32]⟩
abbrev S32 : Shape := ⟨1, ![32]⟩
abbrev S5x32x128x256 : Shape := ⟨4, ![5, 32, 128, 256]⟩
abbrev S5x32x128 : Shape := ⟨3, ![5, 32, 128]⟩
abbrev S1x1x32 : Shape := ⟨3, ![1, 1, 32]⟩
abbrev S_ : Shape := ⟨0, ![]⟩
abbrev S5x1x32 : Shape := ⟨3, ![5, 1, 32]⟩
abbrev S5x32 : Shape := ⟨2, ![5, 32]⟩
abbrev S5x32x1x1 : Shape := ⟨4, ![5, 32, 1, 1]⟩
abbrev S5x32x128x1 : Shape := ⟨4, ![5, 32, 128, 1]⟩
abbrev S5x32x128x253 : Shape := ⟨4, ![5, 32, 128, 253]⟩
abbrev S5x4x8x128x256 : Shape := ⟨5, ![5, 4, 8, 128, 256]⟩
abbrev S5x4x8x128x12288 : Shape := ⟨5, ![5, 4, 8, 128, 12288]⟩
abbrev S5x12288x4x8x128 : Shape := ⟨5, ![5, 12288, 4, 8, 128]⟩
abbrev S5x12288x32x128 : Shape := ⟨4, ![5, 12288, 32, 128]⟩
abbrev S5x1x32x128 : Shape := ⟨4, ![5, 1, 32, 128]⟩
abbrev S5x12288x32x1 : Shape := ⟨4, ![5, 12288, 32, 1]⟩

abbrev nBuf : Space → Nat
  | .hbm => 35
  | .vmem => 7
  | .smem => 0
  | _ => 0

abbrev bufTy : (tb : Table) → Fin (tcTables nBuf tb) → BufTy
  | .hbm, ⟨0, _⟩ => ⟨S5x12288x4096, .bf16⟩
  | .hbm, ⟨1, _⟩ => ⟨S5x12288x4x256, .bf16⟩
  | .hbm, ⟨2, _⟩ => ⟨S5x12288x32, .f32⟩
  | .hbm, ⟨3, _⟩ => ⟨S32, .f32⟩
  | .hbm, ⟨4, _⟩ => ⟨S5x32x128x256, .fp8e4m3⟩
  | .hbm, ⟨5, _⟩ => ⟨S5x32x128, .f32⟩
  | .hbm, ⟨6, _⟩ => ⟨S5x32x128x256, .f32⟩
  | .hbm, ⟨7, _⟩ => ⟨S32, .f32⟩
  | .hbm, ⟨8, _⟩ => ⟨S32, .f32⟩
  | .hbm, ⟨9, _⟩ => ⟨S1x1x32, .f32⟩
  | .hbm, ⟨10, _⟩ => ⟨S5x12288x32, .f32⟩
  | .hbm, ⟨11, _⟩ => ⟨S5x12288x32, .f32⟩
  | .hbm, ⟨12, _⟩ => ⟨S_, .f32⟩
  | .hbm, ⟨13, _⟩ => ⟨S_, .f32⟩
  | .hbm, ⟨14, _⟩ => ⟨S5x12288x32, .f32⟩
  | .hbm, ⟨15, _⟩ => ⟨S5x12288x32, .f32⟩
  | .hbm, ⟨16, _⟩ => ⟨S5x1x32, .f32⟩
  | .hbm, ⟨17, _⟩ => ⟨S5x32, .f32⟩
  | .hbm, ⟨18, _⟩ => ⟨S5x32x128x256, .bf16⟩
  | .hbm, ⟨19, _⟩ => ⟨S5x32x128x256, .fp8e4m3⟩
  | .hbm, ⟨20, _⟩ => ⟨S5x32x128, .f32⟩
  | .hbm, ⟨21, _⟩ => ⟨S5x4x8x128x256, .bf16⟩
  | .hbm, ⟨22, _⟩ => ⟨S5x4x8x128x12288, .f32⟩
  | .hbm, ⟨23, _⟩ => ⟨S5x12288x4x8x128, .f32⟩
  | .hbm, ⟨24, _⟩ => ⟨S5x12288x32x128, .f32⟩
  | .hbm, ⟨25, _⟩ => ⟨S5x1x32x128, .f32⟩
  | .hbm, ⟨26, _⟩ => ⟨S5x12288x32x128, .f32⟩
  | .hbm, ⟨27, _⟩ => ⟨S5x12288x32x128, .f32⟩
  | .hbm, ⟨28, _⟩ => ⟨S5x12288x32x1, .f32⟩
  | .hbm, ⟨29, _⟩ => ⟨S5x12288x32x128, .f32⟩
  | .hbm, ⟨30, _⟩ => ⟨S5x12288x32x128, .f32⟩
  | .hbm, ⟨31, _⟩ => ⟨S5x12288x4096, .f32⟩
  | .hbm, ⟨32, _⟩ => ⟨S5x12288x4096, .f32⟩
  | .hbm, ⟨33, _⟩ => ⟨S5x12288x4096, .f32⟩
  | .hbm, ⟨34, _⟩ => ⟨S5x12288x4096, .bf16⟩
  | .local _ .vmem, ⟨0, _⟩ => ⟨S5x32, .f32⟩
  | .local _ .vmem, ⟨1, _⟩ => ⟨S5x32x128x256, .fp8e4m3⟩
  | .local _ .vmem, ⟨2, _⟩ => ⟨S5x32x128, .f32⟩
  | .local _ .vmem, ⟨3, _⟩ => ⟨S5x32x128x256, .f32⟩
  | .local _ .vmem, ⟨4, _⟩ => ⟨S5x32x128x256, .bf16⟩
  | .local _ .vmem, ⟨5, _⟩ => ⟨S5x32x128x256, .fp8e4m3⟩
  | .local _ .vmem, ⟨6, _⟩ => ⟨S5x32x128, .f32⟩
  | _, _ => ⟨S5x12288x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_call0_cst : Ref sig .tc := ⟨.hbm, 12, rfl⟩
abbrev main_call0_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S5x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x32x128x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x32x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x32x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x32x128x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scan.lean ====
/-
  The kernel's running sum along the tokens of one tile: seven doubling steps make a prefix sum of the 128 lanes, and four such
  pieces, each carried into the next, make the prefix sums of the 512 tokens.
-/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem

/-- The sum of the last `s` entries of `g` up to `l`. -/
def win (g : ℕ → EReal) (s l : ℕ) : EReal := ∑ i ∈ Finset.range s, if i ≤ l then g (l - i) else 0

/-- Doubling the window: its first half, and its second half where the lane is far enough. -/
theorem win_double (g : ℕ → EReal) (s l : ℕ) : win g s l + (if s ≤ l then win g s (l - s) else 0) = win g (s + s) l := by
  unfold win
  rw [Finset.sum_range_add]
  congr 1
  split
  · next h =>
    refine Finset.sum_congr rfl fun i _ => ?_
    by_cases hi : i ≤ l - s
    · rw [if_pos hi, if_pos (by omega), show l - s - i = l - (s + i) by omega]
    · rw [if_neg hi, if_neg (by omega)]
  · next h => exact (Finset.sum_eq_zero fun i _ => if_neg (by omega)).symm

/-- A window at least as long as the prefix is the prefix sum. -/
theorem win_prefix (g : ℕ → EReal) (s l : ℕ) (h : l < s) : win g s l = ∑ j ∈ Finset.range (l + 1), g j := by
  unfold win
  rw [← Finset.sum_filter, show (Finset.range s).filter (· ≤ l) = Finset.range (l + 1) by ext i; simp; omega,
    ← Finset.sum_range_reflect]
  refine Finset.sum_congr rfl fun i hi => ?_
  rw [Finset.mem_range] at hi
  exact congrArg g (by omega)

/-- One doubling step, as the kernel writes it. -/
def dbl (v : FVec Ideal S32x128 .f32) (k : BitVec 32) : FVec Ideal S32x128 .f32 :=
  addf v (select (cmpi .sge (iota .tc S32x128 32 [1] iota_S32x128_d1_w32) (broadcast S32x128 k))
    (dynamicRotate 1 k none v rotates_S32x128_d1) (broadcast S32x128 (Scalar.ofBits (F := Ideal) .f32 0x00000000#32)))

/-- The seven steps. -/
def lane (v : FVec Ideal S32x128 .f32) : FVec Ideal S32x128 .f32 :=
  dbl (dbl (dbl (dbl (dbl (dbl (dbl v 1#32) 2#32) 4#32) 8#32) 16#32) 32#32) 64#32

/-- The rate times one quarter of the tile's time steps, summed along the lanes, onto what is carried in. -/
def part (a : FVec Ideal S32x128 .f32) (x : FVec Ideal S1x32x128 .f32) (carry : FVec Ideal S32x128 .f32) : FVec Ideal S32x128 .f32 :=
  addf (lane (mulf a (shapeCast S32x128 x shapeCasts_S1x32x128_S32x128))) carry

/-- The last lane, on every lane. -/
def last (v : FVec Ideal S32x128 .f32) : FVec Ideal S32x128 .f32 :=
  broadcastTo S32x128 (shapeCast S32x1 (extractStridedSlice S32x1 ![0, 127] v slices_S32x128_o0_127_S32x1) shapeCasts_S32x1_S32x1)
    broadcasts_S32x1_S32x128

/-- The lane compared with the shift, as numbers. -/
theorem sge_lane : ∀ (k : Fin 65) (l : Fin 128), IntOp.cmpi .sge (BitVec.ofNat 32 l.val) (BitVec.ofNat 32 k.val)
    = BitVec.ofBool (decide (k.val ≤ l.val)) := by decide +kernel

/-- The step at an entry, for each of the shifts. -/
theorem dbl_apply (v : FVec Ideal S32x128 .f32) (k : ℕ) (hk : k ≤ 64) (h : Fin 32) (l : Fin 128) :
    dbl v (BitVec.ofNat 32 k) (ix2 h l) = v (ix2 h l) + (if k ≤ l.val then v (ix2 h ⟨l.val - k, by omega⟩) else 0) := by
  pointwise [dbl]
  rw [sge_lane ⟨k, by omega⟩ l, Scalar.select_decide]
  congr 1
  split
  · next hkl =>
    have hkl' : k ≤ l.val := hkl
    refine congrArg (fun q => v (ix2 h q)) (Fin.ext ?_)
    show (l.val + 128 - (BitVec.ofNat 32 k).toNat % 128) % 128 = l.val - k
    rw [BitVec.toNat_ofNat, Nat.mod_eq_of_lt (show k < 2 ^ 32 by omega), Nat.mod_eq_of_lt (show k < 128 by omega)]
    omega
  · rfl

/-- The step doubles the window. -/
theorem dbl_win (v : FVec Ideal S32x128 .f32) (g : ℕ → EReal) (h : Fin 32) (k : ℕ) (hk : k ≤ 64)
    (hv : ∀ l : Fin 128, v (ix2 h l) = win g k l.val) (l : Fin 128) : dbl v (BitVec.ofNat 32 k) (ix2 h l) = win g (k + k) l.val := by
  rw [dbl_apply v k hk, hv, ← win_double]
  congr 1
  split
  · exact hv _
  · rfl

/-- The seven steps make the prefix sums of a row. -/
theorem lane_apply (v : FVec Ideal S32x128 .f32) (g : ℕ → EReal) (h : Fin 32) (hv : ∀ l : Fin 128, v (ix2 h l) = g l.val) (l : Fin 128) :
    lane v (ix2 h l) = ∑ j ∈ Finset.range (l.val + 1), g j := by
  have h0 : ∀ l : Fin 128, v (ix2 h l) = win g 1 l.val := fun l => by
    rw [hv]; unfold win; rw [Finset.sum_range_one, if_pos (Nat.zero_le _), Nat.sub_zero]
  have h1 := dbl_win _ g h 1 (by omega) h0
  have h2 := dbl_win _ g h 2 (by omega) h1
  have h3 := dbl_win _ g h 4 (by omega) h2
  have h4 := dbl_win _ g h 8 (by omega) h3
  have h5 := dbl_win _ g h 16 (by omega) h4
  have h6 := dbl_win _ g h 32 (by omega) h5
  have h7 := dbl_win _ g h 64 (by omega) h6
  exact (h7 l).trans (win_prefix g 128 l.val l.isLt)

/-- The last lane at an entry. -/
theorem last_apply (v : FVec Ideal S32x128 .f32) (h : Fin 32) (l : Fin 128) : last v (ix2 h l) = v (ix2 h 127) := by
  pointwise [last]

/-- One quarter's product at an entry. -/
theorem prod_apply (a : FVec Ideal S32x128 .f32) (x : FVec Ideal S1x32x128 .f32) (h : Fin 32) (l : Fin 128) :
    mulf a (shapeCast S32x128 x shapeCasts_S1x32x128_S32x128) (ix2 h l) = a (ix2 h l) * x (ix3 0 h l) := by
  pointwise

/-- One quarter of the tile: quarter `q` ends at the prefix sums of the tile's tokens, onto what was carried into the tile. -/
theorem part_apply (a : FVec Ideal S32x128 .f32) (x : FVec Ideal S1x32x128 .f32) (carry : FVec Ideal S32x128 .f32) (h : Fin 32)
    (G : ℕ → EReal) (C : EReal) (n : ℕ) (hG : ∀ l : Fin 128, a (ix2 h l) * x (ix3 0 h l) = G (n + l.val))
    (hC : ∀ l : Fin 128, carry (ix2 h l) = C + ∑ j ∈ Finset.range n, G j) (l : Fin 128) :
    part a x carry (ix2 h l) = C + ∑ j ∈ Finset.range (n + (l.val + 1)), G j := by
  show lane _ (ix2 h l) + carry (ix2 h l) = _
  rw [lane_apply _ (fun j => G (n + j)) h (fun l => (prod_apply a x h l).trans (hG l)), hC, Finset.sum_range_add G n, add_comm, add_assoc]

/-- The first quarter of the tile, over what the tile carried in. -/
def part0 (a C : FVec Ideal S32x128 .f32) (x0 : FVec Ideal S1x32x128 .f32) : FVec Ideal S32x128 .f32 := part a x0 C
/-- The second quarter, over what the first carries. -/
def part1 (a C : FVec Ideal S32x128 .f32) (x0 x1 : FVec Ideal S1x32x128 .f32) : FVec Ideal S32x128 .f32 := part a x1 (last (part0 a C x0))
/-- The third quarter, over what the second carries. -/
def part2 (a C : FVec Ideal S32x128 .f32) (x0 x1 x2 : FVec Ideal S1x32x128 .f32) : FVec Ideal S32x128 .f32 := part a x2 (last (part1 a C x0 x1))
/-- The fourth quarter, over what the third carries. -/
def part3 (a C : FVec Ideal S32x128 .f32) (x0 x1 x2 x3 : FVec Ideal S1x32x128 .f32) : FVec Ideal S32x128 .f32 :=
  part a x3 (last (part2 a C x0 x1 x2))

/-- The last lane of a quarter carries the sum of all its tokens. -/
theorem last_sum (v : FVec Ideal S32x128 .f32) (h : Fin 32) (G : ℕ → EReal) (C : EReal) (n : ℕ)
    (hv : ∀ l : Fin 128, v (ix2 h l) = C + ∑ j ∈ Finset.range (n + (l.val + 1)), G j) (l : Fin 128) :
    last v (ix2 h l) = C + ∑ j ∈ Finset.range (n + 128), G j := by
  rw [last_apply]; exact hv 127

section Tile
variable (a C : FVec Ideal S32x128 .f32) (x0 x1 x2 x3 : FVec Ideal S1x32x128 .f32) (h : Fin 32) (G : ℕ → EReal) (c : EReal)
  (hC : ∀ l : Fin 128, C (ix2 h l) = c)
  (h0 : ∀ l : Fin 128, a (ix2 h l) * x0 (ix3 0 h l) = G (0 + l.val)) (h1 : ∀ l : Fin 128, a (ix2 h l) * x1 (ix3 0 h l) = G (128 + l.val))
  (h2 : ∀ l : Fin 128, a (ix2 h l) * x2 (ix3 0 h l) = G (256 + l.val)) (h3 : ∀ l : Fin 128, a (ix2 h l) * x3 (ix3 0 h l) = G (384 + l.val))
include hC h0

/-- A lane of the first quarter is what was carried in and the sum of the tokens up to it. -/
theorem part0_apply (l : Fin 128) : part0 a C x0 (ix2 h l) = c + ∑ j ∈ Finset.range (0 + (l.val + 1)), G j :=
  part_apply a x0 C h G c 0 h0 (fun l => by rw [hC]; simp) l

include h1 in
/-- A lane of the second quarter likewise. -/
theorem part1_apply (l : Fin 128) : part1 a C x0 x1 (ix2 h l) = c + ∑ j ∈ Finset.range (128 + (l.val + 1)), G j :=
  part_apply a x1 _ h G c 128 h1 (last_sum _ h G c 0 (part0_apply a C x0 h G c hC h0)) l

include h1 h2 in
/-- A lane of the third quarter likewise. -/
theorem part2_apply (l : Fin 128) : part2 a C x0 x1 x2 (ix2 h l) = c + ∑ j ∈ Finset.range (256 + (l.val + 1)), G j :=
  part_apply a x2 _ h G c 256 h2 (last_sum _ h G c 128 (part1_apply a C x0 x1 h G c hC h0 h1)) l

include h1 h2 h3 in
/-- A lane of the fourth quarter likewise. -/
theorem part3_apply (l : Fin 128) : part3 a C x0 x1 x2 x3 (ix2 h l) = c + ∑ j ∈ Finset.range (384 + (l.val + 1)), G j :=
  part_apply a x3 _ h G c 384 h3 (last_sum _ h G c 256 (part2_apply a C x0 x1 x2 h G c hC h0 h1 h2)) l

include h1 h2 h3 in
/-- What the tile carries out: what it carried in and the sum of its 512 tokens. -/
theorem carry_apply (l : Fin 128) : last (part3 a C x0 x1 x2 x3) (ix2 h l) = c + ∑ j ∈ Finset.range 512, G j :=
  last_sum _ h G c 384 (part3_apply a C x0 x1 x2 x3 h G c hC h0 h1 h2 h3) l
end Tile

end Cert.KernelIdeal.Val
-- ==== Proof.Tile.lean ====
/-
  What the kernel's two scratch buffers of one tile hold once written: the decays of the tile's tokens, and the rows of c split by group.
-/
module

public import proofs.«01_k».proof.Proof.Scan

@[expose] public section

set_option maxRecDepth 16384

noncomputable section

namespace Cert.KernelIdeal.Val
open Cert.KernelIdeal Cert.KernelIdeal.Gen Idealize.ShloMosaic Idealize.ShloMosaic.TcCoe Idealize.SL.Sem

/-- A strided load of row pairs of the window of c: row `8 i + o` of the pairs, its half `p`. -/
theorem cread {M : Memref sig .tc .vmem S1x4096x128 .bf16} (h : M.IsWhole) (X : S1x4096x128.Idx → Elt Ideal .bf16)
    (hn : S1x2048x2x128.numel = S1x4096x128.numel) (o : ℕ) (ho : o < 8) (inb)
    (i : Fin 256) (p : Fin 2) (l : Fin 128) :
    View.readAt (Elt Ideal) (M.view.reshape S1x2048x2x128 hn) (⟨![0, o, 0, 0], ![1, 256, 2, 128], ![1, 8, 1, 1], inb⟩ : LoadRect S1x2048x2x128) (h.unread X)
      (ix4 0 i p l) = X (ix3 0 ⟨2 * (o + 8 * i.val) + p.val, by omega⟩ l) := by
  refine (congrFun (h.read_unread X) _).trans ?_
  have e : (⟨![0, o, 0, 0], ![1, 256, 2, 128], ![1, 8, 1, 1], inb⟩ : LoadRect S1x2048x2x128).idx (ix4 0 i p l) = ix4 0 ⟨o + 8 * i.val, by omega⟩ p l := by
    funext a
    apply Fin.ext
    fin_cases a <;> simp [LoadRect.idx]
  refine (congrArg (fun q => shapeCast S1x2048x2x128 X hn.symm q) e).trans ?_
  pointwise
  exact congrArg (fun q => X (ix3 0 q l)) (Fin.ext (by show (o + 8 * i.val) * 2 + p.val = 2 * (o + 8 * i.val) + p.val; omega))

/-- The four quarters' decays, turned so that the tokens are the rows and quarter `j` has the columns from `32 j`. -/
def dflip (p0 p1 p2 p3 : FVec Ideal S32x128 .f32) : FVec Ideal S128x128 .f32 :=
  transpose S128x128 [1, 0] (concatenate S128x128 0 [⟨S32x128, exp p0⟩, ⟨S32x128, exp p1⟩, ⟨S32x128, exp p2⟩, ⟨S32x128, exp p3⟩]
    concatenates_S32x128_S32x128_S32x128_S32x128_S128x128_d0) transposes_S128x128_p1_0_S128x128

/-- Column `n` of the turned decays, in the quarter it falls in. -/
theorem dflip_apply (p0 p1 p2 p3 : FVec Ideal S32x128 .f32) (l : Fin 128) (n : Fin 128) (h : Fin 32) :
    (n.val = h.val → dflip p0 p1 p2 p3 (ix2 l n) = Ideal.exp (p0 (ix2 h l))) ∧
    (n.val = 32 + h.val → dflip p0 p1 p2 p3 (ix2 l n) = Ideal.exp (p1 (ix2 h l))) ∧
    (n.val = 64 + h.val → dflip p0 p1 p2 p3 (ix2 l n) = Ideal.exp (p2 (ix2 h l))) ∧
    (n.val = 96 + h.val → dflip p0 p1 p2 p3 (ix2 l n) = Ideal.exp (p3 (ix2 h l))) := by
  pointwise [dflip]
  refine ⟨fun e => ?_, fun e => ?_, fun e => ?_, fun e => ?_⟩
  · rw [dif_pos (by omega)]
    exact congrArg (fun q => Ideal.exp (p0 (ix2 q l))) (Fin.ext e)
  · rw [dif_neg (by omega), dif_pos (by omega)]
    exact congrArg (fun q => Ideal.exp (p1 (ix2 q l))) (Fin.ext (by show n.val - 32 = h.val; omega))
  · rw [dif_neg (by omega), dif_neg (by omega), dif_pos (by omega)]
    exact congrArg (fun q => Ideal.exp (p2 (ix2 q l))) (Fin.ext (by show n.val - 32 - 32 = h.val; omega))
  · rw [dif_neg (by omega), dif_neg (by omega), dif_neg (by omega)]
    exact congrArg (fun q => Ideal.exp (p3 (ix2 q l))) (Fin.ext (by show n.val - 32 - 32 - 32 = h.val; omega))

/-- The decay scratch of a tile: the exponentials of the prefix sums, onto what was carried in. -/
theorem decay_canon (a C : FVec Ideal S32x128 .f32) (x0 x1 x2 x3 : FVec Ideal S1x32x128 .f32) (h : Fin 32) (G : ℕ → EReal) (c : EReal)
    (hC : ∀ l : Fin 128, C (ix2 h l) = c)
    (h0 : ∀ l : Fin 128, a (ix2 h l) * x0 (ix3 0 h l) = G (0 + l.val)) (h1 : ∀ l : Fin 128, a (ix2 h l) * x1 (ix3 0 h l) = G (128 + l.val))
    (h2 : ∀ l : Fin 128, a (ix2 h l) * x2 (ix3 0 h l) = G (256 + l.val)) (h3 : ∀ l : Fin 128, a (ix2 h l) * x3 (ix3 0 h l) = G (384 + l.val))
    (s : Fin 512) :
    View.canon (Val := Elt Ideal) (s := S512x32) (e := .f32)
      [⟨Rect.unit ![384, 0] S128x32.size inb_S512x32_S128x32_384_0, shapeCast S128x32 (extractStridedSlice S128x32 ![0, 96]
          (dflip (part0 a C x0) (part1 a C x0 x1) (part2 a C x0 x1 x2) (part3 a C x0 x1 x2 x3)) slices_S128x128_o0_96_S128x32) shapeCasts_S128x32_S128x32⟩,
       ⟨Rect.unit ![256, 0] S128x32.size inb_S512x32_S128x32_256_0, shapeCast S128x32 (extractStridedSlice S128x32 ![0, 64]
          (dflip (part0 a C x0) (part1 a C x0 x1) (part2 a C x0 x1 x2) (part3 a C x0 x1 x2 x3)) slices_S128x128_o0_64_S128x32) shapeCasts_S128x32_S128x32⟩,
       ⟨Rect.unit ![128, 0] S128x32.size inb_S512x32_S128x32_128_0, shapeCast S128x32 (extractStridedSlice S128x32 ![0, 32]
          (dflip (part0 a C x0) (part1 a C x0 x1) (part2 a C x0 x1 x2) (part3 a C x0 x1 x2 x3)) slices_S128x128_o0_32_S128x32) shapeCasts_S128x32_S128x32⟩,
       ⟨Rect.unit ![0, 0] S128x32.size inb_S512x32_S128x32_0_0, shapeCast S128x32 (extractStridedSlice S128x32 ![0, 0]
          (dflip (part0 a C x0) (part1 a C x0 x1) (part2 a C x0 x1 x2) (part3 a C x0 x1 x2 x3)) slices_S128x128_o0_0_S128x32) shapeCasts_S128x32_S128x32⟩]
      (ix2 s h) = Ideal.exp (c + ∑ j ∈ Finset.range (s.val + 1), G j) := by
  have e0 := part0_apply a C x0 h G c hC h0
  have e1 := part1_apply a C x0 x1 h G c hC h0 h1
  have e2 := part2_apply a C x0 x1 x2 h G c hC h0 h1 h2
  have e3 := part3_apply a C x0 x1 x2 x3 h G c hC h0 h1 h2 h3
  generalize part0 a C x0 = p0 at *
  generalize part1 a C x0 x1 = p1 at *
  generalize part2 a C x0 x1 x2 = p2 at *
  generalize part3 a C x0 x1 x2 x3 = p3 at *
  have f := fun l n => dflip_apply p0 p1 p2 p3 l n h
  generalize dflip p0 p1 p2 p3 = P at *
  have F0 : ∀ l n : Fin 128, n.val = h.val → s.val = l.val → P (ix2 l n) = Ideal.exp (c + ∑ j ∈ Finset.range (s.val + 1), G j) :=
    fun l n hn hl => by rw [(f l n).1 hn, e0, hl, Nat.zero_add]
  have F1 : ∀ l n : Fin 128, n.val = 32 + h.val → s.val = 128 + l.val → P (ix2 l n) = Ideal.exp (c + ∑ j ∈ Finset.range (s.val + 1), G j) :=
    fun l n hn hl => by rw [(f l n).2.1 hn, e1, hl, Nat.add_assoc]
  have F2 : ∀ l n : Fin 128, n.val = 64 + h.val → s.val = 256 + l.val → P (ix2 l n) = Ideal.exp (c + ∑ j ∈ Finset.range (s.val + 1), G j) :=
    fun l n hn hl => by rw [(f l n).2.2.1 hn, e2, hl, Nat.add_assoc]
  have F3 : ∀ l n : Fin 128, n.val = 96 + h.val → s.val = 384 + l.val → P (ix2 l n) = Ideal.exp (c + ∑ j ∈ Finset.range (s.val + 1), G j) :=
    fun l n hn hl => by rw [(f l n).2.2.2 hn, e3, hl, Nat.add_assoc]
  canon_tiles x hx
  all_goals
    have hs : s.val = _ := hx0
    have hh : h.val = _ := hx1
    pointwise
  · exact F3 _ _ (congrArg (96 + ·) hh.symm) hs
  · exact F2 _ _ (congrArg (64 + ·) hh.symm) hs
  · exact F1 _ _ (congrArg (32 + ·) hh.symm) hs
  · exact F0 _ _ hh.symm hs

/-- One group's half of the rows of c: the even tokens' rows and the odd tokens' rows, interleaved. -/
def lrow (p : Fin 2) (E O : FVec Ideal S1x256x2x128 .bf16) : FVec Ideal S1x512x128 .bf16 :=
  shapeCast S1x512x128 (interleaveRows S512x128
    (shapeCast S256x128 (rowsOfParity p S1x256x1x128 E bitcasts_S1x256x2x128_w16_S1x256x1x128_w32) shapeCasts_S1x256x1x128_S256x128)
    (shapeCast S256x128 (rowsOfParity p S1x256x1x128 O bitcasts_S1x256x2x128_w16_S1x256x1x128_w32) shapeCasts_S1x256x1x128_S256x128)
    bitcasts_S512x128_w16_S256x128_w32) shapeCasts_S512x128_S1x512x128

/-- Its entry, where the two loads hold the rows of even and of odd number. -/
theorem lrow_apply (p : Fin 2) (E O : FVec Ideal S1x256x2x128 .bf16) (T : ℕ → Fin 128 → EReal)
    (hE : ∀ (i : Fin 256) (l : Fin 128), E (ix4 0 i p l) = T (2 * i.val) l)
    (hO : ∀ (i : Fin 256) (l : Fin 128), O (ix4 0 i p l) = T (2 * i.val + 1) l) (s : Fin 512) (l : Fin 128) :
    lrow p E O (ix3 0 s l) = T s.val l := by
  pointwise [lrow]
  split
  · next h =>
    refine (hE _ _).trans (congrArg (fun q => T q l) ?_)
    show 2 * (s.val / 2) = s.val
    omega
  · next h =>
    refine (hO _ _).trans (congrArg (fun q => T q l) ?_)
    show 2 * (s.val / 2) + 1 = s.val
    omega

/-- The split scratch of a tile: entry `(g, s, n)` is the row of c of token `s`, group `g`, half `n / 128`, at lane `n % 128`. -/
theorem lhs_canon {M : Memref sig .tc .vmem S1x4096x128 .bf16} (h : M.IsWhole) (X : S1x4096x128.Idx → Elt Ideal .bf16)
    (hn : S1x2048x2x128.numel = S1x4096x128.numel) (i0 i1 i2 i3 i4 i5 i6 i7) (g : Fin 4) (s : Fin 512) (n : Fin 256) :
    View.canon (Val := Elt Ideal) (s := S4x512x256) (e := .bf16)
      [⟨Rect.unit ![3, 0, 128] S1x512x128.size inb_S4x512x256_S1x512x128_3_0_128, lrow 1
          (View.readAt (Elt Ideal) (M.view.reshape S1x2048x2x128 hn) (⟨![0, 3, 0, 0], ![1, 256, 2, 128], ![1, 8, 1, 1], i3⟩ : LoadRect S1x2048x2x128) (h.unread X))
          (View.readAt (Elt Ideal) (M.view.reshape S1x2048x2x128 hn) (⟨![0, 7, 0, 0], ![1, 256, 2, 128], ![1, 8, 1, 1], i7⟩ : LoadRect S1x2048x2x128) (h.unread X))⟩,
       ⟨Rect.unit ![2, 0, 128] S1x512x128.size inb_S4x512x256_S1x512x128_2_0_128, lrow 0
          (View.readAt (Elt Ideal) (M.view.reshape S1x2048x2x128 hn) (⟨![0, 3, 0, 0], ![1, 256, 2, 128], ![1, 8, 1, 1], i3⟩ : LoadRect S1x2048x2x128) (h.unread X))
          (View.readAt (Elt Ideal) (M.view.reshape S1x2048x2x128 hn) (⟨![0, 7, 0, 0], ![1, 256, 2, 128], ![1, 8, 1, 1], i7⟩ : LoadRect S1x2048x2x128) (h.unread X))⟩,
       ⟨Rect.unit ![1, 0, 128] S1x512x128.size inb_S4x512x256_S1x512x128_1_0_128, lrow 1
          (View.readAt (Elt Ideal) (M.view.reshape S1x2048x2x128 hn) (⟨![0, 2, 0, 0], ![1, 256, 2, 128], ![1, 8, 1, 1], i2⟩ : LoadRect S1x2048x2x128) (h.unread X))
          (View.readAt (Elt Ideal) (M.view.reshape S1x2048x2x128 hn) (⟨![0, 6, 0, 0], ![1, 256, 2, 128], ![1, 8, 1, 1], i6⟩ : LoadRect S1x2048x2x128) (h.unread X))⟩,
       ⟨Rect.unit ![0, 0, 128] S1x512x128.size inb_S4x512x256_S1x512x128_0_0_128, lrow 0
          (View.readAt (Elt Ideal) (M.view.reshape S1x2048x2x128 hn) (⟨![0, 2, 0, 0], ![1, 256, 2, 128], ![1, 8, 1, 1], i2⟩ : LoadRect S1x2048x2x128) (h.unread X))
          (View.readAt (Elt Ideal) (M.view.reshape S1x2048x2x128 hn) (⟨![0, 6, 0, 0], ![1, 256, 2, 128], ![1, 8, 1, 1], i6⟩ : LoadRect S1x2048x2x128) (h.unread X))⟩,
       ⟨Rect.unit ![3, 0, 0] S1x512x128.size inb_S4x512x256_S1x512x128_3_0_0, lrow 1
          (View.readAt (Elt Ideal) (M.view.reshape S1x2048x2x128 hn) (⟨![0, 1, 0, 0], ![1, 256, 2, 128], ![1, 8, 1, 1], i1⟩ : LoadRect S1x2048x2x128) (h.unread X))
          (View.readAt (Elt Ideal) (M.view.reshape S1x2048x2x128 hn) (⟨![0, 5, 0, 0], ![1, 256, 2, 128], ![1, 8, 1, 1], i5⟩ : LoadRect S1x2048x2x128) (h.unread X))⟩,
       ⟨Rect.unit ![2, 0, 0] S1x512x128.size inb_S4x512x256_S1x512x128_2_0_0, lrow 0
          (View.readAt (Elt Ideal) (M.view.reshape S1x2048x2x128 hn) (⟨![0, 1, 0, 0], ![1, 256, 2, 128], ![1, 8, 1, 1], i1⟩ : LoadRect S1x2048x2x128) (h.unread X))
          (View.readAt (Elt Ideal) (M.view.reshape S1x2048x2x128 hn) (⟨![0, 5, 0, 0], ![1, 256, 2, 128], ![1, 8, 1, 1], i5⟩ : LoadRect S1x2048x2x128) (h.unread X))⟩,
       ⟨Rect.unit ![1, 0, 0] S1x512x128.size inb_S4x512x256_S1x512x128_1_0_0, lrow 1
          (View.readAt (Elt Ideal) (M.view.reshape S1x2048x2x128 hn) (⟨![0, 0, 0, 0], ![1, 256, 2, 128], ![1, 8, 1, 1], i0⟩ : LoadRect S1x2048x2x128) (h.unread X))
          (View.readAt (Elt Ideal) (M.view.reshape S1x2048x2x128 hn) (⟨![0, 4, 0, 0], ![1, 256, 2, 128], ![1, 8, 1, 1], i4⟩ : LoadRect S1x2048x2x128) (h.unread X))⟩,
       ⟨Rect.unit ![0, 0, 0] S1x512x128.size inb_S4x512x256_S1x512x128_0_0_0, lrow 0
          (View.readAt (Elt Ideal) (M.view.reshape S1x2048x2x128 hn) (⟨![0, 0, 0, 0], ![1, 256, 2, 128], ![1, 8, 1, 1], i0⟩ : LoadRect S1x2048x2x128) (h.unread X))
          (View.readAt (Elt Ideal) (M.view.reshape S1x2048x2x128 hn) (⟨![0, 4, 0, 0], ![1, 256, 2, 128], ![1, 8, 1, 1], i4⟩ : LoadRect S1x2048x2x128) (h.unread X))⟩]
      (ix3 g s n) = X (ix3 0 ⟨8 * s.val + 4 * (n.val / 128) + g.val, by omega⟩ ⟨n.val % 128, by omega⟩) := by
  let T : ℕ → ℕ → Fin 128 → EReal := fun r k l => if hk : 8 * k + r < 4096 then X (ix3 0 ⟨8 * k + r, hk⟩ l) else 0
  have key : ∀ (p : Fin 2) (o : ℕ) (ho : o < 4) (ie io) (s' : Fin 512) (l : Fin 128),
      lrow p (View.readAt (Elt Ideal) (M.view.reshape S1x2048x2x128 hn) (⟨![0, o, 0, 0], ![1, 256, 2, 128], ![1, 8, 1, 1], ie⟩ : LoadRect S1x2048x2x128) (h.unread X))
        (View.readAt (Elt Ideal) (M.view.reshape S1x2048x2x128 hn) (⟨![0, o + 4, 0, 0], ![1, 256, 2, 128], ![1, 8, 1, 1], io⟩ : LoadRect S1x2048x2x128) (h.unread X))
        (ix3 0 s' l) = T (2 * o + p.val) s'.val l := by
    intro p o ho ie io s' l
    refine lrow_apply p _ _ (T (2 * o + p.val)) (fun i l => ?_) (fun i l => ?_) s' l
    · rw [cread h X hn o (by omega)]
      show _ = dite _ _ _
      rw [dif_pos (by omega)]
      exact congrArg (fun q => X (ix3 0 q l)) (Fin.ext (by show 2 * (o + 8 * i.val) + p.val = 8 * (2 * i.val) + (2 * o + p.val); omega))
    · rw [cread h X hn (o + 4) (by omega)]
      show _ = dite _ _ _
      rw [dif_pos (by omega)]
      exact congrArg (fun q => X (ix3 0 q l)) (Fin.ext (by show 2 * (o + 4 + 8 * i.val) + p.val = 8 * (2 * i.val + 1) + (2 * o + p.val); omega))
  have fin : ∀ (r : ℕ) (s' : Fin 512) (l : Fin 128), s'.val = s.val → l.val = n.val % 128 → r = 4 * (n.val / 128) + g.val →
      T r s'.val l = X (ix3 0 ⟨8 * s.val + 4 * (n.val / 128) + g.val, by omega⟩ ⟨n.val % 128, by omega⟩) := by
    intro r s' l hs hl hr
    show dite _ _ _ = _
    rw [dif_pos (by omega)]
    exact congrArg₂ (fun q r => X (ix3 0 q r)) (Fin.ext (by show 8 * s'.val + r = 8 * s.val + 4 * (n.val / 128) + g.val; omega)) (Fin.ext hl)
  have key' := fun (p : Fin 2) (o : ℕ) (ho : o < 4) ie io (s' : Fin 512) (l : Fin 128) (hs : s.val = s'.val) (hn : n.val = 128 * (o / 2) + l.val)
    (hg : g.val = 2 * (o % 2) + p.val) => (key p o ho ie io s' l).trans (fin _ s' l hs.symm (by omega) (by omega))
  canon_tiles x hx
  all_goals
    have hg : g.val = _ := hx0
    have hs : s.val = _ := hx1
    have hn' : n.val = _ := hx2
    obtain ⟨x0, x1, x2, rfl⟩ : ∃ (a : Fin 1) (b : Fin 512) (c : Fin 128), x = ix3 a b c := ⟨x 0, x 1, x 2, by pointwise⟩
    obtain rfl : x0 = 0 := Subsingleton.elim _ _
    skip
  · exact key' 1 3 (by decide) i3 i7 x1 x2 hs (hn'.trans (by simp)) hg
  · exact key' 0 3 (by decide) i3 i7 x1 x2 hs (hn'.trans (by simp)) hg
  · exact key' 1 2 (by decide) i2 i6 x1 x2 hs (hn'.trans (by simp)) hg
  · exact key' 0 2 (by decide) i2 i6 x1 x2 hs (hn'.trans (by simp)) hg
  · exact key' 1 1 (by decide) i1 i5 x1 x2 hs (hn'.trans (by simp)) hg
  · exact key' 0 1 (by decide) i1 i5 x1 x2 hs (hn'.trans (by simp)) hg
  · exact key' 1 0 (by decide) i0 i4 x1 x2 hs (hn'.trans (by simp)) hg
  · exact key' 0 0 (by decide) i0 i4 x1 x2 hs (hn'.trans (by simp)) hg

end Cert.KernelIdeal.Val
-- ==== Proof.Out.lean ====
/-
  What one tile of the kernel stores, in each of the three cases of the grid point: the corrected y, the running sum carried out, and the
  two buffers held over the batch.
-/
module

public import proofs.«01_k».proof.Proof.Tile

@[expose] public section

set_option maxRecDepth 16384

noncomputable section

namespace Cert.KernelIdeal.Val
open Cert.KernelIdeal Cert.KernelIdeal.Gen Idealize.ShloMosaic Idealize.ShloMosaic.TcCoe Idealize.SL.Sem
variable (m : (ℓ : Loc nD τ sig) → Buf (Elt Ideal) ℓ)

/-- The corrected y of a tile at token `s`, column `q`: the projection on the head's state, scaled and decayed, onto y. -/
def yspec (Y : S1x512x4096.Idx → EReal) (X : S1x4096x128.Idx → EReal) (S : S1x32x128.Idx → EReal) (W : Fin 4096 → Fin 256 → EReal)
    (E : Fin 32 → ℕ → EReal) (s : Fin 512) (q : Fin 4096) : EReal :=
  Y (ix3 0 s q) + (∑ n : Fin 256, X (ix3 0 ⟨8 * s.val + 4 * (n.val / 128) + q.val / 1024, by omega⟩ ⟨n.val % 128, by omega⟩) * W q n)
    * S (ix3 0 ⟨q.val / 128, by omega⟩ ⟨q.val % 128, by omega⟩) * E ⟨q.val / 128, by omega⟩ s.val

/-- One stored piece, written with whatever indices it has, is that entry. -/
theorem yspec_at {Y : S1x512x4096.Idx → EReal} {X : S1x4096x128.Idx → EReal} {S : S1x32x128.Idx → EReal} {W : Fin 4096 → Fin 256 → EReal}
    {E : Fin 32 → ℕ → EReal} {s : Fin 512} {q : Fin 4096} {L : S4x512x256.Idx → EReal} {V : S4096x256.Idx → EReal} {D : S512x32.Idx → EReal}
    (hL : ∀ g s n, L (ix3 g s n) = X (ix3 0 ⟨8 * s.val + 4 * (n.val / 128) + g.val, by omega⟩ ⟨n.val % 128, by omega⟩))
    (hV : ∀ q n, V (ix2 q n) = W q n) (hD : ∀ s h, D (ix2 s h) = E h s.val)
    (s0 s1 s2 : Fin 512) (q0 q1 : Fin 4096) (g : Fin 4) (h0 h1 : Fin 32) (p : Fin 128)
    (es0 : s.val = s0.val) (es1 : s.val = s1.val) (es2 : s.val = s2.val) (eq0 : q.val = q0.val) (eq1 : q.val = q1.val)
    (eg : q.val / 1024 = g.val) (eh0 : q.val / 128 = h0.val) (eh1 : q.val / 128 = h1.val) (ep : q.val % 128 = p.val) :
    Y (ix3 0 s0 q0) + (∑ n, L (ix3 g s1 n) * V (ix2 q1 n)) * S (ix3 0 h0 p) * D (ix2 s2 h1) = yspec Y X S W E s q := by
  obtain rfl : s = s0 := Fin.ext es0
  obtain rfl : s = s1 := Fin.ext es1
  obtain rfl : s = s2 := Fin.ext es2
  obtain rfl : q = q0 := Fin.ext eq0
  obtain rfl : q = q1 := Fin.ext eq1
  obtain rfl : h0 = h1 := Fin.ext (eh0.symm.trans eh1)
  unfold yspec
  rw [show (⟨q.val / 128, by omega⟩ : Fin 32) = h0 from Fin.ext eh0, show (⟨q.val % 128, by omega⟩ : Fin 128) = p from Fin.ext ep]
  simp only [hL, hV, hD, eg]

/-- One stored piece, as the kernel computes it: columns `o` on of a pair of heads' projection, scaled, decayed, onto y. -/
def opiece (V : FVec Ideal S256x256 .bf16) (L : FVec Ideal S1x256x256 .bf16) (o : ℕ) (ho : S256x256.Slices ![0, o] S256x128)
    (S : FVec Ideal S1x1x128 .f32) (D : FVec Ideal S256x1 .f32) (Y : FVec Ideal S1x256x128 .bf16) : FVec Ideal S1x256x128 .bf16 :=
  shapeCast S1x256x128 (truncf .bf16 (addf (extf .f32 (shapeCast S256x128 Y shapeCasts_S1x256x128_S256x128) bitsLt_bf16_f32)
    (mulf (mulf (extractStridedSlice S256x128 ![0, o] (matmul dot_S256x256_S256x256_S256x256_1_1_0_0_n_n none
        (shapeCast S256x256 L shapeCasts_S1x256x256_S256x256) V (constant S256x256 .f32 0x00000000#32)) ho)
      (broadcastTo S256x128 (shapeCast S1x128 S shapeCasts_S1x1x128_S1x128) broadcasts_S1x128_S256x128))
      (broadcastTo S256x128 D broadcasts_S256x1_S256x128))) bitsLt_bf16_f32) shapeCasts_S256x128_S1x256x128

/-- Its entry, from the buffers it loads. -/
theorem opiece_spec {Y : S1x512x4096.Idx → EReal} {X : S1x4096x128.Idx → EReal} {S : S1x32x128.Idx → EReal} {W : Fin 4096 → Fin 256 → EReal}
    {E : Fin 32 → ℕ → EReal} {s : Fin 512} {q : Fin 4096} {L : S4x512x256.Idx → EReal} {V : S4096x256.Idx → EReal} {D : S512x32.Idx → EReal}
    (hL : ∀ g s n, L (ix3 g s n) = X (ix3 0 ⟨8 * s.val + 4 * (n.val / 128) + g.val, by omega⟩ ⟨n.val % 128, by omega⟩))
    (hV : ∀ q n, V (ix2 q n) = W q n) (hD : ∀ s h, D (ix2 s h) = E h s.val)
    (w g r h k o : ℕ) (iV : ∀ a, (![w, 0] : Fin 2 → ℕ) a + S256x256.size a ≤ S4096x256.size a)
    (iL : ∀ a, (![g, r, 0] : Fin 3 → ℕ) a + S1x256x256.size a ≤ S4x512x256.size a) (ho : S256x256.Slices ![0, o] S256x128)
    (iS : ∀ a, (![0, h, 0] : Fin 3 → ℕ) a + S1x1x128.size a ≤ S1x32x128.size a)
    (iD : ∀ a, (![r, h] : Fin 2 → ℕ) a + S256x1.size a ≤ S512x32.size a)
    (iY : ∀ a, (![0, r, k] : Fin 3 → ℕ) a + S1x256x128.size a ≤ S1x512x4096.size a)
    (x : S1x256x128.Idx) (hs : s.val = r + (x 1).val) (hq : q.val = k + (x 2).val) (hk : w + o = k) (hh : k = 128 * h) (hg : h / 8 = g) :
    opiece (View.ld (Val := Elt Ideal) (e' := .bf16) V (Rect.unit (s := S4096x256) ![w, 0] S256x256.size iV))
      (fun j => L ((Rect.unit (s := S4x512x256) ![g, r, 0] S1x256x256.size iL).toLoadRect.idx j)) o ho
      (View.ld (Val := Elt Ideal) (e' := .f32) S (Rect.unit (s := S1x32x128) ![0, h, 0] S1x1x128.size iS))
      (fun j => D ((Rect.unit (s := S512x32) ![r, h] S256x1.size iD).toLoadRect.idx j))
      (View.ld (Val := Elt Ideal) (e' := .bf16) Y (Rect.unit (s := S1x512x4096) ![0, r, k] S1x256x128.size iY)) x = yspec Y X S W E s q := by
  have x1 : (x 1).val < 256 := (x 1).isLt
  have x2 : (x 2).val < 128 := (x 2).isLt
  pointwise [opiece]
  refine yspec_at hL hV hD _ _ _ _ _ _ _ _ _ ?_ ?_ ?_ ?_ ?_ ?_ ?_ ?_ ?_
  all_goals first | (dsimp only; omega) | omega

/-- Quarter `k` of the tile's time steps. -/
def quarter (X : S1x32x512.Idx → EReal) (k : ℕ) (inb : ∀ a, (![0, 0, k] : Fin 3 → ℕ) a + S1x32x128.size a ≤ S1x32x512.size a) : FVec Ideal S1x32x128 .f32 :=
  View.ld (Val := Elt Ideal) (e' := .f32) X (Rect.unit (s := S1x32x512) ![0, 0, k] S1x32x128.size inb)

/-- Its entry. -/
theorem quarter_apply (X : S1x32x512.Idx → EReal) (k : ℕ) (inb : ∀ a, (![0, 0, k] : Fin 3 → ℕ) a + S1x32x128.size a ≤ S1x32x512.size a) (h : Fin 32) (l : Fin 128) (hk : k + l.val < 512) :
    quarter X k inb (ix3 0 h l) = X (ix3 0 h ⟨k + l.val, hk⟩) := by
  pointwise [quarter]

/-- The rate times the tile's time steps, in quarters, from the same by token. -/
theorem quarters (a : FVec Ideal S32x128 .f32) (X : S1x32x512.Idx → EReal) (h : Fin 32) (G : ℕ → EReal)
    (hG : ∀ (l : Fin 128) (s : Fin 512), a (ix2 h l) * X (ix3 0 h s) = G s.val) (k : ℕ) (inb : ∀ a, (![0, 0, k] : Fin 3 → ℕ) a + S1x32x128.size a ≤ S1x32x512.size a) (hk : k ≤ 384) (l : Fin 128) :
    a (ix2 h l) * quarter X k inb (ix3 0 h l) = G (k + l.val) := by
  rw [quarter_apply X k inb h l (by omega), hG]

set_option maxHeartbeats 1600000 in
/-- In the middle of a batch: the corrected y. -/
theorem out_B (c : Dev nD) (t : Fin cfg0.N) (h0 : ¬t.val % 24 = 0) (h1 : ¬t.val % 24 = 23) (G : Fin 32 → ℕ → EReal) (cc : Fin 32 → EReal)
    (W : Fin 4096 → Fin 256 → EReal)
    (hW : ∀ q n, (outsAt0 m c (t.val - 1) (by omega)).2.2.2.1 (ix2 q n) = W q n)
    (hC : ∀ h l, (outsAt0 m c (t.val - 1) (by omega)).2.2.2.2.2 (ix2 h l) = cc h)
    (hG : ∀ h (l : Fin 128) (s : Fin 512), (outsAt0 m c (t.val - 1) (by omega)).2.2.2.2.1 (ix2 h l) * iblk m c 2 t (ix3 0 h s) = G h s.val)
    (s : Fin 512) (q : Fin 4096) :
    (outsAt0 m c t.val t.isLt).1 (ix3 0 s q)
      = yspec (iblk m c 0 t) (iblk m c 1 t) (iblk m c 5 t) W (fun h s => Ideal.exp (cc h + ∑ j ∈ Finset.range (s + 1), G h j)) s q := by
  rw [outsAt0_B m c t h0 h1]
  frame_open
  simp (disch := decide) only [↓ View.readCov_cons_toLoadRect, ↓ View.readCov_fill]
  frame_out [read_unread_whole, View.readCov_eq_canon']
  generalize hD : View.canon (Val := Elt Ideal) (s := S512x32) (e := .f32) _ = D
  generalize hL : View.canon (Val := Elt Ideal) (s := S4x512x256) (e := .bf16) _ = L
  have hL' : ∀ g s n, L (ix3 g s n) = iblk m c 1 t (ix3 0 ⟨8 * s.val + 4 * (n.val / 128) + g.val, by omega⟩ ⟨n.val % 128, by omega⟩) :=
    fun g s n => by rw [← hL]; exact lhs_canon _ (iblk m c 1 t) _ _ _ _ _ _ _ _ _ g s n
  have hD' : ∀ s h, D (ix2 s h) = Ideal.exp (cc h + ∑ j ∈ Finset.range (s.val + 1), G h j) := fun s h => by
    rw [← hD]
    exact decay_canon _ _ (quarter (iblk m c 2 t) 0 _) (quarter (iblk m c 2 t) 128 _) (quarter (iblk m c 2 t) 256 _) (quarter (iblk m c 2 t) 384 _)
      h (G h) (cc h) (hC h) (quarters _ _ h _ (hG h) 0 _ (by omega)) (quarters _ _ h _ (hG h) 128 _ (by omega)) (quarters _ _ h _ (hG h) 256 _ (by omega)) (quarters _ _ h _ (hG h) 384 _ (by omega)) s
  clear hL hD
  have key := @opiece_spec (iblk m c 0 t) (iblk m c 1 t) (iblk m c 5 t) W (fun h s => Ideal.exp (cc h + ∑ j ∈ Finset.range (s + 1), G h j)) s q L _ D hL' hW hD'
  canon_tiles x hx
  all_goals refine key _ _ _ _ _ _ _ _ ?_ _ _ _ x ?_ ?_ ?_ ?_ ?_
  all_goals first
    | exact slices_S256x256_o0_128_S256x128
    | exact slices_S256x256_o0_0_S256x128
    | exact hx1
    | exact hx2
    | rfl
    | exact hx1.trans (Nat.zero_add _).symm
    | exact hx2.trans (Nat.zero_add _).symm

set_option maxHeartbeats 1600000 in
/-- At the end of a batch: the corrected y. -/
theorem out_C (c : Dev nD) (t : Fin cfg0.N) (h0 : ¬t.val % 24 = 0) (h1 : t.val % 24 = 23) (G : Fin 32 → ℕ → EReal) (cc : Fin 32 → EReal)
    (W : Fin 4096 → Fin 256 → EReal)
    (hW : ∀ q n, (outsAt0 m c (t.val - 1) (by omega)).2.2.2.1 (ix2 q n) = W q n)
    (hC : ∀ h l, (outsAt0 m c (t.val - 1) (by omega)).2.2.2.2.2 (ix2 h l) = cc h)
    (hG : ∀ h (l : Fin 128) (s : Fin 512), (outsAt0 m c (t.val - 1) (by omega)).2.2.2.2.1 (ix2 h l) * iblk m c 2 t (ix3 0 h s) = G h s.val)
    (s : Fin 512) (q : Fin 4096) :
    (outsAt0 m c t.val t.isLt).1 (ix3 0 s q)
      = yspec (iblk m c 0 t) (iblk m c 1 t) (iblk m c 5 t) W (fun h s => Ideal.exp (cc h + ∑ j ∈ Finset.range (s + 1), G h j)) s q := by
  rw [outsAt0_C m c t h0 h1]
  frame_open
  simp (disch := decide) only [↓ View.readCov_cons_toLoadRect, ↓ View.readCov_fill]
  frame_out [read_unread_whole, View.readCov_eq_canon']
  generalize hD : View.canon (Val := Elt Ideal) (s := S512x32) (e := .f32) _ = D
  generalize hL : View.canon (Val := Elt Ideal) (s := S4x512x256) (e := .bf16) _ = L
  have hL' : ∀ g s n, L (ix3 g s n) = iblk m c 1 t (ix3 0 ⟨8 * s.val + 4 * (n.val / 128) + g.val, by omega⟩ ⟨n.val % 128, by omega⟩) :=
    fun g s n => by rw [← hL]; exact lhs_canon _ (iblk m c 1 t) _ _ _ _ _ _ _ _ _ g s n
  have hD' : ∀ s h, D (ix2 s h) = Ideal.exp (cc h + ∑ j ∈ Finset.range (s.val + 1), G h j) := fun s h => by
    rw [← hD]
    exact decay_canon _ _ (quarter (iblk m c 2 t) 0 _) (quarter (iblk m c 2 t) 128 _) (quarter (iblk m c 2 t) 256 _) (quarter (iblk m c 2 t) 384 _)
      h (G h) (cc h) (hC h) (quarters _ _ h _ (hG h) 0 _ (by omega)) (quarters _ _ h _ (hG h) 128 _ (by omega)) (quarters _ _ h _ (hG h) 256 _ (by omega)) (quarters _ _ h _ (hG h) 384 _ (by omega)) s
  clear hL hD
  have key := @opiece_spec (iblk m c 0 t) (iblk m c 1 t) (iblk m c 5 t) W (fun h s => Ideal.exp (cc h + ∑ j ∈ Finset.range (s + 1), G h j)) s q L _ D hL' hW hD'
  canon_tiles x hx
  all_goals refine key _ _ _ _ _ _ _ _ ?_ _ _ _ x ?_ ?_ ?_ ?_ ?_
  all_goals first
    | exact slices_S256x256_o0_128_S256x128
    | exact slices_S256x256_o0_0_S256x128
    | exact hx1
    | exact hx2
    | rfl
    | exact hx1.trans (Nat.zero_add _).symm
    | exact hx2.trans (Nat.zero_add _).symm

end Cert.KernelIdeal.Val
-- ==== Proof.OutFirst.lean ====
/-
  What the first tile of a batch stores: nothing is carried in, the rate and the codes are set up, and y is corrected as in every tile.
-/
module

public import proofs.«01_k».proof.Proof.Out

@[expose] public section

set_option maxRecDepth 16384

noncomputable section

namespace Cert.KernelIdeal.Val
open Cert.KernelIdeal Cert.KernelIdeal.Gen Idealize.ShloMosaic Idealize.ShloMosaic.TcCoe Idealize.SL.Sem
variable (m : (ℓ : Loc nD τ sig) → Buf (Elt Ideal) ℓ)

/-- The sum over a row that keeps only the diagonal is the diagonal's entry. -/
theorem diag_sum {n : ℕ} (hn : n ≤ 4096) (f : Fin n → EReal) (i : Fin n) :
    (∑ x : Fin n, Scalar.select (IntOp.cmpi .eq (BitVec.ofNat 32 i.val) (BitVec.ofNat 32 x.val)) (f x) 0) = f i := by
  have e : ∀ x : Fin n, Scalar.select (IntOp.cmpi .eq (BitVec.ofNat 32 i.val) (BitVec.ofNat 32 x.val)) (f x) 0 = if x = i then f x else 0 := by
    intro x
    have hx := x.isLt
    have hi := i.isLt
    show Scalar.select (BitVec.ofBool (decide (BitVec.ofNat 32 i.val = BitVec.ofNat 32 x.val))) (f x) 0 = _
    rw [Scalar.select_decide]
    refine if_congr ⟨fun h => Fin.ext ?_, fun h => by rw [h]⟩ rfl rfl
    have h' := congrArg BitVec.toNat h
    rw [BitVec.toNat_ofNat, BitVec.toNat_ofNat, Nat.mod_eq_of_lt (by omega), Nat.mod_eq_of_lt (by omega)] at h'
    exact h'.symm
  rw [Finset.sum_congr rfl fun x _ => e x, Finset.sum_ite_eq' Finset.univ i f, if_pos (Finset.mem_univ i)]

/-- The same sum down a column. -/
theorem diag_sum' {n : ℕ} (hn : n ≤ 4096) (f : Fin n → EReal) (i : Fin n) :
    (∑ x : Fin n, Scalar.select (IntOp.cmpi .eq (BitVec.ofNat 32 x.val) (BitVec.ofNat 32 i.val)) (f x) 0) = f i := by
  refine (Finset.sum_congr rfl fun x _ => ?_).trans (diag_sum hn f i)
  show Scalar.select (BitVec.ofBool (decide (BitVec.ofNat 32 x.val = BitVec.ofNat 32 i.val))) (f x) 0 = Scalar.select (BitVec.ofBool (decide (BitVec.ofNat 32 i.val = BitVec.ofNat 32 x.val))) (f x) 0
  rw [Scalar.select_decide, Scalar.select_decide]
  exact if_congr eq_comm rfl rfl

/-- The rate of a head, on every lane: minus the exponential of its logarithm. -/
theorem rate_apply (X : FVec Ideal S1x32 .f32) (h : Fin 32) (l : Fin 128) : (k0_pay5 X : FVec Ideal S32x128 .f32) (ix2 h l) = -Ideal.exp (X (ix2 0 h)) := by
  open_payloads
  pointwise
  rw [diag_sum (by omega) (fun x => X (ix2 0 x)) h, sub_eq_add_neg, zero_add]

/-- Nothing is carried into a batch. -/
theorem zero_apply (h : Fin 32) (l : Fin 128) : (k0_pay4 : FVec Ideal S32x128 .f32) (ix2 h l) = 0 := by
  open_payloads
  pointwise

/-- The batch's codes, head by head, one row for each head and channel. -/
def wspec (X : S1x32x128x256.Idx → EReal) (q : Fin 4096) (n : Fin 256) : EReal :=
  X (ix4 0 ⟨q.val / 128, by omega⟩ ⟨q.val % 128, by omega⟩ n)

/-- A head's block of codes as a matrix. -/
theorem cast4_apply (Y : S1x1x128x256.Idx → EReal) (h) (r : Fin 128) (k : Fin 256) : shapeCast S128x256 Y h (ix2 r k) = Y (ix4 0 0 r k) := by
  pointwise

/-- One head's block of a batch's codes or state. -/
theorem ld4 (X : S1x32x128x256.Idx → EReal) (h : ℕ) (hh : h < 32) (inb : ∀ a, (![0, h, 0, 0] : Fin 4 → ℕ) a + S1x1x128x256.size a ≤ S1x32x128x256.size a) (r : Fin 128) (k : Fin 256) :
    X ((Rect.unit (s := S1x32x128x256) ![0, h, 0, 0] S1x1x128x256.size inb).toLoadRect.idx (ix4 0 0 r k)) = X (ix4 0 ⟨h, hh⟩ r k) := by
  pointwise

/-- One head's rows, as the kernel stores them. -/
theorem wpiece (X : S1x32x128x256.Idx → EReal) (h : ℕ) (inb : ∀ a, (![0, h, 0, 0] : Fin 4 → ℕ) a + S1x1x128x256.size a ≤ S1x32x128x256.size a)
    (x : S128x256.Idx) (q : Fin 4096) (n : Fin 256) (hq : q.val = 128 * h + (x 0).val) (hn : n.val = (x 1).val) :
    shapeCast S128x256 (extf (F := Ideal) .bf16 (shapeCast S128x256 (View.ld (Val := Elt Ideal) (e' := .fp8e4m3) X
      (Rect.unit (s := S1x32x128x256) ![0, h, 0, 0] S1x1x128x256.size inb)) shapeCasts_S1x1x128x256_S128x256) bitsLt_fp8e4m3_bf16)
      shapeCasts_S128x256_S128x256 x = wspec X q n := by
  obtain ⟨r, k, rfl⟩ : ∃ (r : Fin 128) (k : Fin 256), x = ix2 r k := ⟨x 0, x 1, by pointwise⟩
  have hq' : q.val = 128 * h + r.val := hq
  have hn' : n.val = k.val := hn
  have hh : h < 32 := by omega
  rw [shapeCast_self]
  refine (cast4_apply (fun j => X ((Rect.unit (s := S1x32x128x256) ![0, h, 0, 0] S1x1x128x256.size inb).toLoadRect.idx j)) _ r k).trans ?_
  refine (ld4 X h hh inb r k).trans ?_
  show X (ix4 0 _ _ _) = X (ix4 0 _ _ _)
  obtain rfl : n = k := Fin.ext hn'
  exact congrArg₂ (fun a b => X (ix4 0 a b n)) (Fin.ext (by dsimp only; omega)) (Fin.ext (by dsimp only; omega))

/-- At the start of a batch: the codes held over it. -/
theorem w_A (c : Dev nD) (t : Fin cfg0.N) (h0 : t.val % 24 = 0) (h1 : ¬t.val % 24 = 23) (q : Fin 4096) (n : Fin 256) :
    (outsAt0 m c t.val t.isLt).2.2.2.1 (ix2 q n) = wspec (iblk m c 4 t) q n := by
  rw [outsAt0_A m c t h0 h1]
  frame_open
  frame_out [read_unread_whole]
  canon_tiles x hx
  all_goals refine wpiece (iblk m c 4 t) _ _ x q n ?_ ?_
  all_goals first
    | exact hx0
    | exact hx1
    | exact hx0.trans (Nat.zero_add _).symm

set_option maxHeartbeats 1600000 in
/-- At the start of a batch: the corrected y. -/
theorem out_A (c : Dev nD) (t : Fin cfg0.N) (h0 : t.val % 24 = 0) (h1 : ¬t.val % 24 = 23) (G : Fin 32 → ℕ → EReal)
    (hG : ∀ h (l : Fin 128) (s : Fin 512), k0_pay5 (iblk m c 3 t) (ix2 h l) * iblk m c 2 t (ix3 0 h s) = G h s.val)
    (s : Fin 512) (q : Fin 4096) :
    (outsAt0 m c t.val t.isLt).1 (ix3 0 s q)
      = yspec (iblk m c 0 t) (iblk m c 1 t) (iblk m c 5 t) (wspec (iblk m c 4 t)) (fun h s => Ideal.exp (0 + ∑ j ∈ Finset.range (s + 1), G h j)) s q := by
  rw [outsAt0_A m c t h0 h1]
  frame_open
  simp (disch := decide) only [↓ View.readCov_cons_toLoadRect, ↓ View.readCov_fill]
  frame_out [read_unread_whole, View.readCov_eq_canon']
  generalize hD : View.canon (Val := Elt Ideal) (s := S512x32) (e := .f32) _ = D
  generalize hV : View.canon (Val := Elt Ideal) (s := S4096x256) (e := .bf16) _ = V
  generalize hL : View.canon (Val := Elt Ideal) (s := S4x512x256) (e := .bf16) _ = L
  have hL' : ∀ g s n, L (ix3 g s n) = iblk m c 1 t (ix3 0 ⟨8 * s.val + 4 * (n.val / 128) + g.val, by omega⟩ ⟨n.val % 128, by omega⟩) :=
    fun g s n => by rw [← hL]; exact lhs_canon _ (iblk m c 1 t) _ _ _ _ _ _ _ _ _ g s n
  have hD' : ∀ s h, D (ix2 s h) = Ideal.exp (0 + ∑ j ∈ Finset.range (s.val + 1), G h j) := fun s h => by
    rw [← hD]
    exact decay_canon _ _ (quarter (iblk m c 2 t) 0 _) (quarter (iblk m c 2 t) 128 _) (quarter (iblk m c 2 t) 256 _) (quarter (iblk m c 2 t) 384 _)
      h (G h) (0) (zero_apply h) (quarters _ _ h _ (hG h) 0 _ (by omega)) (quarters _ _ h _ (hG h) 128 _ (by omega)) (quarters _ _ h _ (hG h) 256 _ (by omega)) (quarters _ _ h _ (hG h) 384 _ (by omega)) s
  have hW' : ∀ q n, V (ix2 q n) = wspec (iblk m c 4 t) q n := fun q n => by
    rw [← hV]
    canon_tiles x hx
    all_goals refine wpiece (iblk m c 4 t) _ _ x q n ?_ ?_
    all_goals first
      | exact hx0
      | exact hx1
      | exact hx0.trans (Nat.zero_add _).symm
  clear hL hD hV
  have key := @opiece_spec (iblk m c 0 t) (iblk m c 1 t) (iblk m c 5 t) (wspec (iblk m c 4 t)) (fun h s => Ideal.exp (0 + ∑ j ∈ Finset.range (s + 1), G h j)) s q L _ D hL' hW' hD'
  canon_tiles x hx
  all_goals refine key _ _ _ _ _ _ _ _ ?_ _ _ _ x ?_ ?_ ?_ ?_ ?_
  all_goals first
    | exact slices_S256x256_o0_128_S256x128
    | exact slices_S256x256_o0_0_S256x128
    | exact hx1
    | exact hx2
    | rfl
    | exact hx1.trans (Nat.zero_add _).symm
    | exact hx2.trans (Nat.zero_add _).symm

end Cert.KernelIdeal.Val
-- ==== Proof.State.lean ====
/-
  What a tile leaves for the next: the codes and the rates, set at the start of a batch and held, and the running sum of the rate times the time steps.
-/
module

public import proofs.«01_k».proof.Proof.OutFirst

@[expose] public section

set_option maxRecDepth 16384

noncomputable section

namespace Cert.KernelIdeal.Val
open Cert.KernelIdeal Cert.KernelIdeal.Gen Idealize.ShloMosaic Idealize.ShloMosaic.TcCoe Idealize.SL.Sem
variable (m : (ℓ : Loc nD τ sig) → Buf (Elt Ideal) ℓ)

set_option maxHeartbeats 800000 in
/-- At the start of a batch: what is carried on. -/
theorem carry_A (c : Dev nD) (t : Fin cfg0.N) (h0 : t.val % 24 = 0) (h1 : ¬t.val % 24 = 23) (G : Fin 32 → ℕ → EReal)
    (hG : ∀ h (l : Fin 128) (s : Fin 512), (k0_pay5 (iblk m c 3 t) : FVec Ideal S32x128 .f32) (ix2 h l) * iblk m c 2 t (ix3 0 h s) = G h s.val)
    (h : Fin 32) (l : Fin 128) :
    (outsAt0 m c t.val t.isLt).2.2.2.2.2 (ix2 h l) = 0 + ∑ j ∈ Finset.range 512, G h j := by
  rw [outsAt0_A m c t h0 h1]
  frame_open
  frame_out [read_unread_whole]
  have e := carry_apply (k0_pay5 (iblk m c 3 t)) (k0_pay4)
    (quarter (iblk m c 2 t) 0 inb_S1x32x512_S1x32x128_0_0_0) (quarter (iblk m c 2 t) 128 inb_S1x32x512_S1x32x128_0_0_128)
    (quarter (iblk m c 2 t) 256 inb_S1x32x512_S1x32x128_0_0_256) (quarter (iblk m c 2 t) 384 inb_S1x32x512_S1x32x128_0_0_384)
    h (G h) 0 (zero_apply h) (quarters _ _ h _ (hG h) 0 _ (by omega)) (quarters _ _ h _ (hG h) 128 _ (by omega)) (quarters _ _ h _ (hG h) 256 _ (by omega)) (quarters _ _ h _ (hG h) 384 _ (by omega)) l
  rw [← shapeCast_self (last _) shapeCasts_S32x128_S32x128] at e
  exact e

set_option maxHeartbeats 800000 in
/-- In the middle of a batch: what is carried on. -/
theorem carry_B (c : Dev nD) (t : Fin cfg0.N) (h0 : ¬t.val % 24 = 0) (h1 : ¬t.val % 24 = 23) (G : Fin 32 → ℕ → EReal) (cc : Fin 32 → EReal)
    (hC : ∀ h l, (outsAt0 m c (t.val - 1) (by omega)).2.2.2.2.2 (ix2 h l) = cc h)
    (hG : ∀ h (l : Fin 128) (s : Fin 512), ((outsAt0 m c (t.val - 1) (by omega)).2.2.2.2.1 : FVec Ideal S32x128 .f32) (ix2 h l) * iblk m c 2 t (ix3 0 h s) = G h s.val)
    (h : Fin 32) (l : Fin 128) :
    (outsAt0 m c t.val t.isLt).2.2.2.2.2 (ix2 h l) = cc h + ∑ j ∈ Finset.range 512, G h j := by
  rw [outsAt0_B m c t h0 h1]
  frame_open
  frame_out [read_unread_whole]
  have e := carry_apply ((outsAt0 m c (t.val - 1) (by omega)).2.2.2.2.1) ((outsAt0 m c (t.val - 1) (by omega)).2.2.2.2.2)
    (quarter (iblk m c 2 t) 0 inb_S1x32x512_S1x32x128_0_0_0) (quarter (iblk m c 2 t) 128 inb_S1x32x512_S1x32x128_0_0_128)
    (quarter (iblk m c 2 t) 256 inb_S1x32x512_S1x32x128_0_0_256) (quarter (iblk m c 2 t) 384 inb_S1x32x512_S1x32x128_0_0_384)
    h (G h) (cc h) (hC h) (quarters _ _ h _ (hG h) 0 _ (by omega)) (quarters _ _ h _ (hG h) 128 _ (by omega)) (quarters _ _ h _ (hG h) 256 _ (by omega)) (quarters _ _ h _ (hG h) 384 _ (by omega)) l
  rw [← shapeCast_self (last _) shapeCasts_S32x128_S32x128] at e
  exact e

set_option maxHeartbeats 800000 in
/-- At the end of a batch: what is carried on. -/
theorem carry_C (c : Dev nD) (t : Fin cfg0.N) (h0 : ¬t.val % 24 = 0) (h1 : t.val % 24 = 23) (G : Fin 32 → ℕ → EReal) (cc : Fin 32 → EReal)
    (hC : ∀ h l, (outsAt0 m c (t.val - 1) (by omega)).2.2.2.2.2 (ix2 h l) = cc h)
    (hG : ∀ h (l : Fin 128) (s : Fin 512), ((outsAt0 m c (t.val - 1) (by omega)).2.2.2.2.1 : FVec Ideal S32x128 .f32) (ix2 h l) * iblk m c 2 t (ix3 0 h s) = G h s.val)
    (h : Fin 32) (l : Fin 128) :
    (outsAt0 m c t.val t.isLt).2.2.2.2.2 (ix2 h l) = cc h + ∑ j ∈ Finset.range 512, G h j := by
  rw [outsAt0_C m c t h0 h1]
  frame_open
  frame_out [read_unread_whole]
  have e := carry_apply ((outsAt0 m c (t.val - 1) (by omega)).2.2.2.2.1) ((outsAt0 m c (t.val - 1) (by omega)).2.2.2.2.2)
    (quarter (iblk m c 2 t) 0 inb_S1x32x512_S1x32x128_0_0_0) (quarter (iblk m c 2 t) 128 inb_S1x32x512_S1x32x128_0_0_128)
    (quarter (iblk m c 2 t) 256 inb_S1x32x512_S1x32x128_0_0_256) (quarter (iblk m c 2 t) 384 inb_S1x32x512_S1x32x128_0_0_384)
    h (G h) (cc h) (hC h) (quarters _ _ h _ (hG h) 0 _ (by omega)) (quarters _ _ h _ (hG h) 128 _ (by omega)) (quarters _ _ h _ (hG h) 256 _ (by omega)) (quarters _ _ h _ (hG h) 384 _ (by omega)) l
  rw [← shapeCast_self (last _) shapeCasts_S32x128_S32x128] at e
  exact e

/-- At the start of a batch: the rates held over it. -/
theorem a_A (c : Dev nD) (t : Fin cfg0.N) (h0 : t.val % 24 = 0) (h1 : ¬t.val % 24 = 23) (h : Fin 32) (l : Fin 128) :
    (outsAt0 m c t.val t.isLt).2.2.2.2.1 (ix2 h l) = -Ideal.exp (iblk m c 3 t (ix2 0 h)) := by
  rw [outsAt0_A m c t h0 h1]
  frame_open
  frame_out [read_unread_whole]
  exact rate_apply (iblk m c 3 t) h l

/-- After the first tile the codes stay. -/
theorem w_B (c : Dev nD) (t : Fin cfg0.N) (h0 : ¬t.val % 24 = 0) (h1 : ¬t.val % 24 = 23) :
    (outsAt0 m c t.val t.isLt).2.2.2.1 = (outsAt0 m c (t.val - 1) (by omega)).2.2.2.1 := by
  rw [outsAt0_B m c t h0 h1]
  frame_open
  rfl

/-- After the first tile the rates stay. -/
theorem a_B (c : Dev nD) (t : Fin cfg0.N) (h0 : ¬t.val % 24 = 0) (h1 : ¬t.val % 24 = 23) :
    (outsAt0 m c t.val t.isLt).2.2.2.2.1 = (outsAt0 m c (t.val - 1) (by omega)).2.2.2.2.1 := by
  rw [outsAt0_B m c t h0 h1]
  frame_open
  rfl

/-- After the first tile the codes stay. -/
theorem w_C (c : Dev nD) (t : Fin cfg0.N) (h0 : ¬t.val % 24 = 0) (h1 : t.val % 24 = 23) :
    (outsAt0 m c t.val t.isLt).2.2.2.1 = (outsAt0 m c (t.val - 1) (by omega)).2.2.2.1 := by
  rw [outsAt0_C m c t h0 h1]
  frame_open
  rfl

/-- After the first tile the rates stay. -/
theorem a_C (c : Dev nD) (t : Fin cfg0.N) (h0 : ¬t.val % 24 = 0) (h1 : t.val % 24 = 23) :
    (outsAt0 m c t.val t.isLt).2.2.2.2.1 = (outsAt0 m c (t.val - 1) (by omega)).2.2.2.2.1 := by
  rw [outsAt0_C m c t h0 h1]
  frame_open
  rfl

end Cert.KernelIdeal.Val
-- ==== Proof.Entry.lean ====
/-
  The kernel's input blocks as entries of its arguments.
-/
module

public import proofs.«01_k».proof.Proof.Tile

@[expose] public section

set_option maxRecDepth 16384

noncomputable section

namespace Cert.KernelIdeal.Val
open Cert.KernelIdeal Cert.KernelIdeal.Gen Idealize.ShloMosaic Idealize.ShloMosaic.TcCoe Idealize.SL.Sem
variable (m : (ℓ : Loc nD τ sig) → Buf (Elt Ideal) ℓ)

/-- Where every window's block lies, at each grid point. -/
theorem idx : ∀ t : Fin cfg0.N, win0_0.index t = ![t.val / 24, t.val % 24, 0] ∧ win0_1.index t = ![t.val / 24, t.val % 24, 0]
    ∧ win0_2.index t = ![t.val / 24, 0, t.val % 24] ∧ win0_3.index t = ![0, 0] ∧ win0_4.index t = ![t.val / 24, 0, 0, 0]
    ∧ win0_5.index t = ![t.val / 24, 0, 0] ∧ win0_6.index t = ![t.val / 24, 0, 0, 0] ∧ win0_7.index t = ![t.val / 24, t.val % 24, 0]
    ∧ win0_8.index t = ![t.val / 24, 0, 0, 0] ∧ win0_9.index t = ![t.val / 24, 0, 0] :=
  (by decide +kernel : ∀ t : Fin grid0.N, _)

/-- The batch of a grid point. -/
theorem batch_lt (t : Fin cfg0.N) : t.val / 24 < 5 := by
  have h := lt_of_lt_of_eq t.isLt (show cfg0.N = 120 from N_0)
  omega

/-- The batch of a grid point. -/
def bt (t : Fin cfg0.N) : Fin 5 := ⟨t.val / 24, batch_lt t⟩

/-- The token of a grid point's row. -/
def tk (t : Fin cfg0.N) (s : Fin 512) : Fin 12288 := ⟨512 * (t.val % 24) + s.val, by omega⟩

/-- The block of y. -/
theorem y_blk (c : Dev nD) (t : Fin cfg0.N) (s : Fin 512) (q : Fin 4096) :
    iblk m c 0 t (ix3 0 s q) = m ((c : Thread nD τ).loc main_arg0) (ix3 (bt t) (tk t s) q) := by
  unfold bt tk
  blk_ext [iblk, V, idx t]

/-- The block of c: token, half and group make the row. -/
theorem c_blk (c : Dev nD) (t : Fin cfg0.N) (s : Fin 512) (g : Fin 4) (n : Fin 256) :
    iblk m c 1 t (ix3 0 ⟨8 * s.val + 4 * (n.val / 128) + g.val, by omega⟩ ⟨n.val % 128, by omega⟩)
      = m ((c : Thread nD τ).loc main_arg1) (ix4 (bt t) (tk t s) g n) := by
  unfold bt tk
  blk_simp [iblk]
  entry_read
  pointwise
  blk_ext [idx t]

/-- The block of dt. -/
theorem dt_blk (c : Dev nD) (t : Fin cfg0.N) (h : Fin 32) (s : Fin 512) :
    iblk m c 2 t (ix3 0 h s) = m ((c : Thread nD τ).loc main_arg2) (ix3 (bt t) (tk t s) h) := by
  unfold bt tk
  blk_simp [iblk]
  entry_read
  pointwise
  blk_ext [idx t]

/-- The block of the rates' logarithms. -/
theorem alog_blk (c : Dev nD) (t : Fin cfg0.N) (h : Fin 32) :
    iblk m c 3 t (ix2 0 h) = m ((c : Thread nD τ).loc main_arg3) (ix1 h) := by
  blk_simp [iblk]
  entry_read
  pointwise
  blk_ext [idx t]

/-- The block of codes. -/
theorem codes_blk (c : Dev nD) (t : Fin cfg0.N) (h : Fin 32) (r : Fin 128) (k : Fin 256) :
    iblk m c 4 t (ix4 0 h r k) = m ((c : Thread nD τ).loc main_arg4) (ix4 (bt t) h r k) := by
  unfold bt
  blk_ext [iblk, V, idx t]

/-- The block of scales. -/
theorem scales_blk (c : Dev nD) (t : Fin cfg0.N) (h : Fin 32) (r : Fin 128) :
    iblk m c 5 t (ix3 0 h r) = m ((c : Thread nD τ).loc main_arg5) (ix3 (bt t) h r) := by
  unfold bt
  blk_ext [iblk, V, idx t]

/-- The block of the local states. -/
theorem local_blk (c : Dev nD) (t : Fin cfg0.N) (h : Fin 32) (r : Fin 128) (k : Fin 256) :
    iblk m c 6 t (ix4 0 h r k) = m ((c : Thread nD τ).loc main_arg6) (ix4 (bt t) h r k) := by
  unfold bt
  blk_ext [iblk, V, idx t]

end Cert.KernelIdeal.Val
-- ==== Proof.Pow2.lean ====
/-
  The power-of-two scale, one element at a time: the kernel's search over the eight bits of an exponent field, and the
  reference's least power of two above the element, are one function of the element over the extended reals.
-/
module

public import Idealize.ShloMosaic.Lib.Pipeline.ValueKit
public import Idealize.ShloMosaic.Lib.Pointwise

@[expose] public section

noncomputable section

namespace Cert.Pow2

open Idealize.ShloMosaic

/-- The value of the f32 pattern whose exponent field is `e` and whose fraction is zero. -/
def field (e : ℕ) : EReal := Ideal.ofBits .f32 (BitVec.ofNat 32 e <<< 23)

/-- The sign, exponent and fraction of such a pattern. -/
theorem field_bits : ∀ e : Fin 256, ((BitVec.ofNat 32 e.val <<< 23).extractLsb' 31 1 == 1#1) = false
    ∧ ((BitVec.ofNat 32 e.val <<< 23).extractLsb' 23 8).toNat = e.val ∧ ((BitVec.ofNat 32 e.val <<< 23).extractLsb' 0 23).toNat = 0 := by
  decide +kernel

/-- A positive pattern with exponent field `e` strictly between the two ends and no fraction is a power of two. -/
theorem ieee_normal (b : BitVec 32) (e : ℕ) (hs : (b.extractLsb' (8 + 23) 1 == 1#1) = false) (he : (b.extractLsb' 23 8).toNat = e)
    (hf : (b.extractLsb' 0 23).toNat = 0) (h1 : 1 ≤ e) (h2 : e ≤ 254) :
    Ideal.ieee 8 23 b = (((2 : ℝ) ^ ((e : ℤ) - 127) : ℝ) : EReal) := by
  have key : (1 : ℝ) * ((2 ^ 23 + 0 : ℕ) : ℝ) * (2 : ℝ) ^ ((e : ℤ) - (2 ^ (8 - 1) - 1) - (23 : ℕ)) = (2 : ℝ) ^ ((e : ℤ) - 127) := by
    have h23 : ((2 ^ 23 + 0 : ℕ) : ℝ) = (2 : ℝ) ^ (23 : ℤ) := by norm_num
    rw [one_mul, h23, ← zpow_add₀ (by norm_num)]
    congr 1; norm_num
  have hne : ¬ e = 2 ^ 8 - 1 := by norm_num; omega
  have hne0 : ¬ e = 0 := by omega
  unfold Ideal.ieee
  simp only [hs, he, hf]
  rw [if_neg hne, if_neg hne0, if_neg Bool.false_ne_true, key]

/-- The pattern with all exponent bits and no fraction is plus infinity. -/
theorem ieee_top (b : BitVec 32) (hs : (b.extractLsb' (8 + 23) 1 == 1#1) = false) (he : (b.extractLsb' 23 8).toNat = 255)
    (hf : (b.extractLsb' 0 23).toNat = 0) : Ideal.ieee 8 23 b = ⊤ := by
  unfold Ideal.ieee
  simp only [hs, he, hf]
  rw [if_pos (by norm_num), if_pos trivial, if_neg Bool.false_ne_true]

/-- A field strictly between the two ends is a power of two. -/
theorem field_normal {e : ℕ} (h1 : 1 ≤ e) (h2 : e ≤ 254) : field e = (((2 : ℝ) ^ ((e : ℤ) - 127) : ℝ) : EReal) :=
  have ⟨hs, he, hf⟩ := field_bits ⟨e, by omega⟩
  ieee_normal _ e hs he hf h1 h2

/-- The last field is plus infinity. -/
theorem field_top : field 255 = ⊤ :=
  ieee_top (BitVec.ofNat 32 255 <<< 23) (by decide +kernel) (by decide +kernel) (by decide +kernel)

/-- Fields are ordered as their numbers are. -/
theorem field_le_iff {a b : ℕ} (ha : 1 ≤ a) (ha' : a ≤ 254) (hb : 1 ≤ b) (hb' : b ≤ 254) : field a ≤ field b ↔ a ≤ b := by
  rw [field_normal ha ha', field_normal hb hb', EReal.coe_le_coe_iff, zpow_le_zpow_iff_right₀ (by norm_num)]
  omega

/-- One step of the search: the bits `k` are kept when the element is at least the field they give. -/
def step (x : EReal) (k f : BitVec 32) : BitVec 32 :=
  Scalar.select (Ideal.cmp .oge x (Ideal.ofBits .f32 (IntOp.shli .vector (f + k) 23#32))) (f + k) f

/-- The step, on natural numbers. -/
theorem step_nat (x : EReal) (k f : ℕ) : step x (BitVec.ofNat 32 k) (BitVec.ofNat 32 f)
    = BitVec.ofNat 32 (if field (f + k) ≤ x then f + k else f) := by
  have hs : IntOp.shli .vector (BitVec.ofNat 32 f + BitVec.ofNat 32 k) 23#32 = BitVec.ofNat 32 (f + k) <<< 23 := by
    unfold IntOp.shli
    rw [if_pos (by decide), ← BitVec.ofNat_add]; rfl
  unfold step
  rw [hs, Ideal.cmp_oge, Scalar.select_decide, ← BitVec.ofNat_add]
  unfold field
  split <;> rfl

/-- What holds of the field found so far when the bits from `2 k` up are decided. -/
def Found (x : EReal) (k f : ℕ) : Prop := f + k ≤ 256 ∧ (f = 0 ∨ field f ≤ x) ∧ (f + k ≤ 255 → x < field (f + k))

/-- One step halves what is undecided. -/
theorem Found.step {x : EReal} {k f : ℕ} (h : Found x (k + k) f) : Found x k (if field (f + k) ≤ x then f + k else f) := by
  obtain ⟨h1, h2, h3⟩ := h
  by_cases hc : field (f + k) ≤ x
  · rw [if_pos hc]; exact ⟨by omega, .inr hc, fun h => by rw [Nat.add_assoc] at h ⊢; exact h3 h⟩
  · rw [if_neg hc]; exact ⟨by omega, h2, fun _ => lt_of_not_ge hc⟩

/-- The eight steps of the search. -/
def search (x : EReal) : BitVec 32 :=
  step x 1#32 (step x 2#32 (step x 4#32 (step x 8#32 (step x 16#32 (step x 32#32 (step x 64#32 (step x 128#32 0#32)))))))

/-- The search ends at a field `f ≤ 255` that the element reaches (or zero) and whose successor it does not reach. -/
theorem search_found (x : EReal) : ∃ f : ℕ, search x = BitVec.ofNat 32 f ∧ Found x 1 f := by
  have h0 : Found x 256 0 := ⟨by omega, .inl rfl, fun h => by omega⟩
  have h1 := (show Found x (128 + 128) 0 from h0).step
  have h2 := (show Found x (64 + 64) _ from h1).step
  have h3 := (show Found x (32 + 32) _ from h2).step
  have h4 := (show Found x (16 + 16) _ from h3).step
  have h5 := (show Found x (8 + 8) _ from h4).step
  have h6 := (show Found x (4 + 4) _ from h5).step
  have h7 := (show Found x (2 + 2) _ from h6).step
  have h8 := (show Found x (1 + 1) _ from h7).step
  refine ⟨_, ?_, h8⟩
  unfold search
  rw [show (0#32 : BitVec 32) = BitVec.ofNat 32 0 from rfl]
  rw [step_nat x 128, step_nat x 64, step_nat x 32, step_nat x 16, step_nat x 8, step_nat x 4, step_nat x 2, step_nat x 1]

/-- The biased exponent: the search's, and all ones from `2 ^ 126` up. -/
def biased (x : EReal) : BitVec 32 :=
  Scalar.select (Ideal.cmp .oge x (Ideal.ofBits .f32 0x7E800000#32)) 255#32 (search x)

/-- The exponent the kernel scales by: zero unless the biased exponent is strictly between its two ends. -/
def expo (x : EReal) : BitVec 32 :=
  Scalar.select (IntOp.andi (IntOp.cmpi .ne (biased x) 0#32) (IntOp.cmpi .ne (biased x) 255#32)) (biased x - 126#32) 0#32

/-- The kernel's scale. -/
def scaleK (x : EReal) : EReal := Ideal.ofBits .f32 (IntOp.shli .vector (expo x + 127#32) 23#32)

/-- The kernel's reciprocal of the scale. -/
def invK (x : EReal) : EReal := Ideal.ofBits .f32 (IntOp.shli .vector (127#32 - expo x) 23#32)

/-- The reference's scale over the powers `p`: the least of them above the element, where the element is a normal number below
    `2 ^ 126`; one elsewhere. -/
def scaleR (p : Fin 253 → EReal) (x : EReal) : EReal :=
  Scalar.select (IntOp.andi (Ideal.cmp .oge x (Ideal.ofBits .f32 0x00800000#32)) (Ideal.cmp .olt x (Ideal.ofBits .f32 0x7E800000#32)))
    (Finset.univ.fold min (Ideal.ofBits .f32 0x7F800000#32) fun i => if x < p i then p i else Ideal.ofBits .f32 0x7F800000#32) 1

/-- The upper end of the range is field 253. -/
theorem big_eq : Ideal.ofBits .f32 0x7E800000#32 = field 253 := rfl
/-- The lower end of the range is field 1, the least normal value. -/
theorem small_eq : Ideal.ofBits .f32 0x00800000#32 = field 1 := rfl
/-- The pattern of infinity reads as the top. -/
theorem inf_eq : Ideal.ofBits .f32 0x7F800000#32 = ⊤ := field_top
/-- Field 127 is one. -/
theorem one_eq : field 127 = 1 := by rw [field_normal (by omega) (by omega)]; norm_num

/-- The least power of two above an element of the binade that starts at field `f` is the next field. -/
theorem least_above (p : Fin 253 → EReal) (hp : ∀ i, p i = field (i.val + 2)) (x : EReal) (f : ℕ) (h1 : 1 ≤ f) (h2 : f ≤ 252)
    (hlo : field f ≤ x) (hhi : x < field (f + 1)) :
    (Finset.univ.fold min (⊤ : EReal) fun i => if x < p i then p i else ⊤) = field (f + 1) := by
  apply le_antisymm
  · refine (Finset.fold_min_le _).2 (.inr ⟨⟨f - 1, by omega⟩, Finset.mem_univ _, ?_⟩)
    have : p ⟨f - 1, by omega⟩ = field (f + 1) := by rw [hp]; congr 1; show f - 1 + 2 = f + 1; omega
    rw [this, if_pos hhi]
  · refine (Finset.le_fold_min _).2 ⟨le_top, fun i _ => ?_⟩
    split
    · next h =>
      rw [hp] at h ⊢
      rw [field_le_iff (by omega) (by omega) (by omega) (by omega)]
      have := lt_of_le_of_lt hlo h
      by_contra hc
      exact absurd (lt_of_lt_of_le this ((field_le_iff (b := f) (by omega) (by omega) (by omega) (by omega)).2 (by omega))) (lt_irrefl _)
    · exact le_top

/-- A pattern shifted into place, on natural numbers. -/
theorem shifted (n : ℕ) : Ideal.ofBits .f32 (IntOp.shli .vector (BitVec.ofNat 32 n) 23#32) = field n := by
  unfold IntOp.shli field
  rw [if_pos (by decide)]; rfl

/-- The reciprocal of a field. -/
theorem div_field (f : ℕ) (h1 : 1 ≤ f) (h2 : f ≤ 252) : Ideal.div 1 (field (f + 1)) = field (253 - f) := by
  rw [field_normal (by omega) (by omega), field_normal (by omega) (by omega)]
  unfold Ideal.div
  have hpos : (0 : ℝ) < (2 : ℝ) ^ (((f + 1 : ℕ) : ℤ) - 127) := by positivity
  rw [if_neg (by norm_cast; exact ne_of_gt hpos), one_mul, ← EReal.coe_inv, ← zpow_neg]
  congr 2; push_cast [Nat.cast_sub (show f ≤ 253 by omega)]; ring

/-- One over one is one. -/
theorem div_one_one : Ideal.div 1 1 = 1 := by
  unfold Ideal.div
  rw [if_neg one_ne_zero, one_mul, ← EReal.coe_one, ← EReal.coe_inv, inv_one]

/-- A bit and false is false. -/
theorem and_false (b : BitVec 1) : IntOp.andi b (BitVec.ofBool false) = BitVec.ofBool false := by revert b; decide

/-- THE SCALE: the kernel's scale is the reference's, and the kernel's reciprocal is the reference's quotient. -/
theorem scale_eq (p : Fin 253 → EReal) (hp : ∀ i, p i = field (i.val + 2)) (x : EReal) :
    scaleK x = scaleR p x ∧ invK x = Ideal.div 1 (scaleR p x) := by
  obtain ⟨f, hf, hle, hlo, hhi⟩ := search_found x
  have hone : scaleR p x = 1 → expo x = 0#32 → scaleK x = scaleR p x ∧ invK x = Ideal.div 1 (scaleR p x) := by
    intro hr he
    unfold scaleK invK
    rw [he, hr, div_one_one, ← one_eq]
    exact ⟨shifted 127, shifted 127⟩
  by_cases hbig : field 253 ≤ x
  · apply hone
    · unfold scaleR
      rw [Ideal.cmp_olt, big_eq, decide_eq_false (not_lt.2 hbig), and_false, Scalar.select_ofBool, if_neg Bool.false_ne_true]
    · unfold expo biased
      rw [Ideal.cmp_oge, big_eq, decide_eq_true hbig, Scalar.select_ofBool, if_pos rfl,
        show IntOp.andi (IntOp.cmpi .ne (255#32) 0#32) (IntOp.cmpi .ne (255#32) 255#32) = BitVec.ofBool false by decide,
        Scalar.select_ofBool, if_neg Bool.false_ne_true]
  · have hb : biased x = BitVec.ofNat 32 f := by
      unfold biased
      rw [Ideal.cmp_oge, big_eq, decide_eq_false hbig, ← hf, Scalar.select_ofBool, if_neg Bool.false_ne_true]
    have hf252 : f ≤ 252 := by
      rcases hlo with rfl | hlo
      · omega
      · by_contra hc
        apply hbig
        rcases Nat.lt_or_ge f 255 with h | h
        · exact le_trans ((field_le_iff (by omega) (by omega) (by omega) (by omega)).2 (by omega)) hlo
        · rw [show f = 255 by omega, field_top] at hlo
          exact le_trans le_top hlo
    rcases Nat.eq_zero_or_pos f with rfl | hpos
    · apply hone
      · unfold scaleR
        rw [Ideal.cmp_oge, small_eq, decide_eq_false (not_le.2 (hhi (by omega)))]
        generalize Ideal.cmp _ _ _ = b
        rw [show IntOp.andi (BitVec.ofBool false) b = BitVec.ofBool false by revert b; decide, Scalar.select_ofBool, if_neg Bool.false_ne_true]
      · unfold expo
        rw [hb, show IntOp.andi (IntOp.cmpi .ne (BitVec.ofNat 32 0) 0#32) (IntOp.cmpi .ne (BitVec.ofNat 32 0) 255#32)
          = BitVec.ofBool false by decide, Scalar.select_ofBool, if_neg Bool.false_ne_true]
    · have hlo' : field f ≤ x := hlo.resolve_left (by omega)
      have hr : scaleR p x = field (f + 1) := by
        unfold scaleR
        rw [Ideal.cmp_oge, Ideal.cmp_olt, small_eq, big_eq, decide_eq_true (lt_of_not_ge hbig), decide_eq_true
          (le_trans ((field_le_iff (by omega) (by omega) (by omega) (by omega)).2 hpos) hlo'), inf_eq,
          least_above p hp x f hpos hf252 hlo' (hhi (by omega)),
          show IntOp.andi (BitVec.ofBool true) (BitVec.ofBool true) = BitVec.ofBool true by decide, Scalar.select_ofBool, if_pos rfl]
      have he : expo x = BitVec.ofNat 32 f - 126#32 := by
        unfold expo
        have : ∀ g : Fin 253, 1 ≤ g.val → IntOp.andi (IntOp.cmpi .ne (BitVec.ofNat 32 g.val) 0#32) (IntOp.cmpi .ne (BitVec.ofNat 32 g.val) 255#32)
            = BitVec.ofBool true := by decide +kernel
        rw [hb, this ⟨f, by omega⟩ hpos, Scalar.select_ofBool, if_pos rfl]
      unfold scaleK invK
      rw [hr, he, div_field f hpos hf252]
      have e1 : BitVec.ofNat 32 f - 126#32 + 127#32 = BitVec.ofNat 32 (f + 1) := by
        have : ∀ g : Fin 253, BitVec.ofNat 32 g.val - 126#32 + 127#32 = BitVec.ofNat 32 (g.val + 1) := by decide +kernel
        exact this ⟨f, by omega⟩
      have e2 : 127#32 - (BitVec.ofNat 32 f - 126#32) = BitVec.ofNat 32 (253 - f) := by
        have : ∀ g : Fin 253, 127#32 - (BitVec.ofNat 32 g.val - 126#32) = BitVec.ofNat 32 (253 - g.val) := by decide +kernel
        exact this ⟨f, by omega⟩
      rw [e1, e2]
      exact ⟨shifted _, shifted _⟩

end Cert.Pow2
-- ==== Proof.Spec.lean ====
/-
  The mathematics both programs compute, over plain arrays of extended reals: the running sum of the rate times the time
  steps, the corrected y, the final state, and its codes and scales.
-/
module

public import proofs.«01_k».proof.Proof.Pow2
public import Idealize.ShloMosaic.Lib.Pipeline.Value

@[expose] public section

noncomputable section

namespace Cert.Spec

open Cert Idealize.ShloMosaic

/-- A row's largest magnitude over 448. -/
def amax (f : Fin 256 → EReal) : EReal :=
  Finset.fold max (Ideal.ofBits .f32 0xFF800000#32) (fun x => FloatOps.absf (F := Ideal) (φ := .f32) (f x)) Finset.univ * Ideal.ofBits .f32 0x3B124925#32

/-- A row's scale. -/
def qscale (f : Fin 256 → EReal) : EReal := Pow2.scaleK (amax f)

/-- A row's codes. -/
def qcode (f : Fin 256 → EReal) (k : Fin 256) : EReal :=
  min (Ideal.ofBits .f32 0x43E00000#32) (max (Ideal.ofBits .f32 0xC3E00000#32) (f k * Pow2.invK (amax f)))

/-- A token's term: the rate times its time step. -/
def term (A : Fin 32 → EReal) (D : Fin 5 → Fin 12288 → Fin 32 → EReal) (b : Fin 5) (h : Fin 32) (j : ℕ) : EReal :=
  if hj : j < 12288 then -Ideal.exp (A h) * D b ⟨j, hj⟩ h else 0

/-- The running sum over the first `n` tokens. -/
def run (A : Fin 32 → EReal) (D : Fin 5 → Fin 12288 → Fin 32 → EReal) (b : Fin 5) (h : Fin 32) (n : ℕ) : EReal :=
  ∑ j ∈ Finset.range n, term A D b h j

/-- The running sum, a stretch of tokens further. -/
theorem run_add (A : Fin 32 → EReal) (D : Fin 5 → Fin 12288 → Fin 32 → EReal) (b : Fin 5) (h : Fin 32) (n k : ℕ) :
    run A D b h (n + k) = run A D b h n + ∑ j ∈ Finset.range k, term A D b h (n + j) :=
  Finset.sum_range_add (term A D b h) n k

/-- The corrected y. -/
def yout (Y : Fin 5 → Fin 12288 → Fin 4096 → EReal) (C : Fin 5 → Fin 12288 → Fin 4 → Fin 256 → EReal) (A : Fin 32 → EReal)
    (D : Fin 5 → Fin 12288 → Fin 32 → EReal) (X : Fin 5 → Fin 32 → Fin 128 → Fin 256 → EReal) (S : Fin 5 → Fin 32 → Fin 128 → EReal)
    (b : Fin 5) (s : Fin 12288) (q : Fin 4096) : EReal :=
  Y b s q + (∑ n : Fin 256, C b s ⟨q.val / 1024, by omega⟩ n * X b ⟨q.val / 128, by omega⟩ ⟨q.val % 128, by omega⟩ n)
    * S b ⟨q.val / 128, by omega⟩ ⟨q.val % 128, by omega⟩ * Ideal.exp (run A D b ⟨q.val / 128, by omega⟩ (s.val + 1))

/-- The final state of a batch's head, one row for each channel. -/
def state (A : Fin 32 → EReal) (D : Fin 5 → Fin 12288 → Fin 32 → EReal) (X : Fin 5 → Fin 32 → Fin 128 → Fin 256 → EReal)
    (S : Fin 5 → Fin 32 → Fin 128 → EReal) (H : Fin 5 → Fin 32 → Fin 128 → Fin 256 → EReal) (b : Fin 5) (h : Fin 32) (r : Fin 128) (k : Fin 256) : EReal :=
  Ideal.exp (run A D b h 12288) * (X b h r k * S b h r) + H b h r k

end Cert.Spec
-- ==== Proof.Sweep.lean ====
/-
  What the kernel holds after every tile, by induction over the grid, and the corrected y it writes.
-/
module

public import proofs.«01_k».proof.Proof.State
public import proofs.«01_k».proof.Proof.Entry
public import proofs.«01_k».proof.Proof.Spec

@[expose] public section

set_option maxRecDepth 16384

noncomputable section

namespace Cert.KernelIdeal.Val
open Cert.Spec Cert.KernelIdeal Cert.KernelIdeal.Gen Idealize.ShloMosaic Idealize.ShloMosaic.TcCoe Idealize.SL.Sem
variable (m : (ℓ : Loc nD τ sig) → Buf (Elt Ideal) ℓ)

/-- y, as an array of its three coordinates. -/
def argY (c : Dev nD) (b : Fin 5) (s : Fin 12288) (q : Fin 4096) : EReal := m ((c : Thread nD τ).loc main_arg0) (ix3 b s q)
/-- c. -/
def argC (c : Dev nD) (b : Fin 5) (s : Fin 12288) (g : Fin 4) (n : Fin 256) : EReal := m ((c : Thread nD τ).loc main_arg1) (ix4 b s g n)
/-- dt. -/
def argD (c : Dev nD) (b : Fin 5) (s : Fin 12288) (h : Fin 32) : EReal := m ((c : Thread nD τ).loc main_arg2) (ix3 b s h)
/-- The rates' logarithms. -/
def argA (c : Dev nD) (h : Fin 32) : EReal := m ((c : Thread nD τ).loc main_arg3) (ix1 h)
/-- The incoming codes. -/
def argX (c : Dev nD) (b : Fin 5) (h : Fin 32) (r : Fin 128) (k : Fin 256) : EReal := m ((c : Thread nD τ).loc main_arg4) (ix4 b h r k)
/-- The incoming scales. -/
def argS (c : Dev nD) (b : Fin 5) (h : Fin 32) (r : Fin 128) : EReal := m ((c : Thread nD τ).loc main_arg5) (ix3 b h r)
/-- The local states. -/
def argH (c : Dev nD) (b : Fin 5) (h : Fin 32) (r : Fin 128) (k : Fin 256) : EReal := m ((c : Thread nD τ).loc main_arg6) (ix4 b h r k)

/-- What is held after a tile: the batch's codes, the rates, and the running sum up to the tile's end. -/
structure Held (c : Dev nD) (t : Fin cfg0.N) : Prop where
  w : ∀ (q : Fin 4096) (n : Fin 256), (outsAt0 m c t.val t.isLt).2.2.2.1 (ix2 q n) = argX m c (bt t) ⟨q.val / 128, by omega⟩ ⟨q.val % 128, by omega⟩ n
  a : ∀ (h : Fin 32) (l : Fin 128), (outsAt0 m c t.val t.isLt).2.2.2.2.1 (ix2 h l) = -Ideal.exp (argA m c h)
  carry : ∀ (h : Fin 32) (l : Fin 128), (outsAt0 m c t.val t.isLt).2.2.2.2.2 (ix2 h l) = run (argA m c) (argD m c) (bt t) h (512 * (t.val % 24) + 512)

/-- The rate times a tile's time step is its token's term. -/
theorem term_blk (c : Dev nD) (t : Fin cfg0.N) (h : Fin 32) (s : Fin 512) :
    -Ideal.exp (argA m c h) * iblk m c 2 t (ix3 0 h s) = term (argA m c) (argD m c) (bt t) h (512 * (t.val % 24) + s.val) := by
  rw [dt_blk]
  unfold term
  rw [dif_pos (by omega)]
  rfl

/-- A batch's tile that is not its first follows another of its tiles. -/
theorem bt_pred (t : Fin cfg0.N) (h0 : ¬t.val % 24 = 0) (hp : t.val - 1 < cfg0.N) : bt ⟨t.val - 1, hp⟩ = bt t := Fin.ext (by show (t.val - 1) / 24 = t.val / 24; omega)

/-- The running sum before a tile that is not the first. -/
theorem run_pred (c : Dev nD) (t : Fin cfg0.N) (h0 : ¬t.val % 24 = 0) (hp : t.val - 1 < cfg0.N) (H : Held m c ⟨t.val - 1, hp⟩) (h : Fin 32) (l : Fin 128) :
    (outsAt0 m c (t.val - 1) hp).2.2.2.2.2 (ix2 h l) = run (argA m c) (argD m c) (bt t) h (512 * (t.val % 24)) := by
  rw [H.carry, bt_pred t h0]
  exact congrArg (run (argA m c) (argD m c) (bt t) h) (by dsimp only; omega)

/-- A tile that is not the first hands on what it holds. -/
theorem held_next (c : Dev nD) (t : Fin cfg0.N) (h0 : ¬t.val % 24 = 0) (hp : t.val - 1 < cfg0.N) (H : Held m c ⟨t.val - 1, hp⟩) : Held m c t := by
  have hC := run_pred m c t h0 hp H
  have hG : ∀ h (l : Fin 128) (s : Fin 512), (outsAt0 m c (t.val - 1) hp).2.2.2.2.1 (ix2 h l) * iblk m c 2 t (ix3 0 h s)
      = term (argA m c) (argD m c) (bt t) h (512 * (t.val % 24) + s.val) := fun h l s => by rw [H.a]; exact term_blk m c t h s
  by_cases h1 : t.val % 24 = 23
  · refine ⟨fun q n => ?_, fun h l => ?_, fun h l => ?_⟩
    · rw [w_C m c t h0 h1, H.w, bt_pred t h0]
    · rw [a_C m c t h0 h1, H.a]
    · rw [carry_C m c t h0 h1 (fun h j => term (argA m c) (argD m c) (bt t) h (512 * (t.val % 24) + j)) _ hC hG, run_add]
  · refine ⟨fun q n => ?_, fun h l => ?_, fun h l => ?_⟩
    · rw [w_B m c t h0 h1, H.w, bt_pred t h0]
    · rw [a_B m c t h0 h1, H.a]
    · rw [carry_B m c t h0 h1 (fun h j => term (argA m c) (argD m c) (bt t) h (512 * (t.val % 24) + j)) _ hC hG, run_add]

/-- The rate times the time step on the first tile. -/
theorem term_first (c : Dev nD) (t : Fin cfg0.N) (h : Fin 32) (l : Fin 128) (s : Fin 512) :
    (k0_pay5 (iblk m c 3 t) : FVec Ideal S32x128 .f32) (ix2 h l) * iblk m c 2 t (ix3 0 h s)
      = term (argA m c) (argD m c) (bt t) h (512 * (t.val % 24) + s.val) := by
  rw [rate_apply, alog_blk]
  exact term_blk m c t h s

/-- The first tile of a batch sets up what is held. -/
theorem held_first (c : Dev nD) (t : Fin cfg0.N) (h0 : t.val % 24 = 0) : Held m c t := by
  have h1 : ¬t.val % 24 = 23 := by omega
  refine ⟨fun q n => ?_, fun h l => ?_, fun h l => ?_⟩
  · rw [w_A m c t h0 h1]
    exact codes_blk m c t _ _ n
  · rw [a_A m c t h0 h1, alog_blk]
    rfl
  · rw [carry_A m c t h0 h1 (fun h j => term (argA m c) (argD m c) (bt t) h (512 * (t.val % 24) + j)) (term_first m c t), run_add]
    congr 1
    rw [h0]
    exact (Finset.sum_range_zero _).symm

/-- What is held after every tile. -/
theorem held (c : Dev nD) : ∀ (n : ℕ) (hn : n < cfg0.N), Held m c ⟨n, hn⟩
  | 0, hn => held_first m c ⟨0, hn⟩ rfl
  | n + 1, hn => by
    by_cases h0 : (n + 1) % 24 = 0
    · exact held_first m c ⟨n + 1, hn⟩ h0
    · exact held_next m c ⟨n + 1, hn⟩ h0 (by dsimp only; omega) (held c n (by omega))

/-- The corrected y of a tile, over the arguments. -/
theorem yspec_eq (c : Dev nD) (t : Fin cfg0.N) (W : Fin 4096 → Fin 256 → EReal)
    (hW : ∀ (q : Fin 4096) (n : Fin 256), W q n = argX m c (bt t) ⟨q.val / 128, by omega⟩ ⟨q.val % 128, by omega⟩ n)
    (E : Fin 32 → ℕ → EReal) (hE : ∀ (h : Fin 32) (s : Fin 512), E h s.val = Ideal.exp (run (argA m c) (argD m c) (bt t) h ((tk t s).val + 1))) (s : Fin 512) (q : Fin 4096) :
    yspec (iblk m c 0 t) (iblk m c 1 t) (iblk m c 5 t) W E s q
      = yout (argY m c) (argC m c) (argA m c) (argD m c) (argX m c) (argS m c) (bt t) (tk t s) q := by
  unfold yspec yout
  rw [y_blk, scales_blk, hE]
  refine congrArg₂ (· + ·) rfl (congrArg₂ (· * ·) (congrArg₂ (· * ·) (Finset.sum_congr rfl fun n _ => ?_) rfl) rfl)
  rw [hW]
  exact congrArg (· * _) (c_blk m c t s ⟨q.val / 1024, by omega⟩ n)

/-- The decay of a tile's token. -/
theorem decay_eq (c : Dev nD) (t : Fin cfg0.N) (h : Fin 32) (s : Fin 512) :
    Ideal.exp (run (argA m c) (argD m c) (bt t) h (512 * (t.val % 24)) + ∑ j ∈ Finset.range (s.val + 1), term (argA m c) (argD m c) (bt t) h (512 * (t.val % 24) + j))
      = Ideal.exp (run (argA m c) (argD m c) (bt t) h ((tk t s).val + 1)) := by
  rw [← run_add]
  rfl

/-- The corrected y a tile writes. -/
theorem out_eq (c : Dev nD) (t : Fin cfg0.N) (s : Fin 512) (q : Fin 4096) :
    (outsAt0 m c t.val t.isLt).1 (ix3 0 s q) = yout (argY m c) (argC m c) (argA m c) (argD m c) (argX m c) (argS m c) (bt t) (tk t s) q := by
  by_cases h0 : t.val % 24 = 0
  · have h1 : ¬t.val % 24 = 23 := by omega
    rw [out_A m c t h0 h1 (fun h j => term (argA m c) (argD m c) (bt t) h (512 * (t.val % 24) + j)) (term_first m c t)]
    refine yspec_eq m c t _ (fun q n => codes_blk m c t _ _ n) _ (fun h s => ?_) s q
    rw [← decay_eq, h0]
    exact congrArg (fun z => Ideal.exp (z + _)) (Finset.sum_range_zero _).symm
  · have hp : t.val - 1 < cfg0.N := by omega
    have H := held m c (t.val - 1) hp
    have hC := run_pred m c t h0 hp H
    have hG : ∀ h (l : Fin 128) (s : Fin 512), (outsAt0 m c (t.val - 1) hp).2.2.2.2.1 (ix2 h l) * iblk m c 2 t (ix3 0 h s)
        = term (argA m c) (argD m c) (bt t) h (512 * (t.val % 24) + s.val) := fun h l s => by rw [H.a]; exact term_blk m c t h s
    by_cases h1 : t.val % 24 = 23
    · rw [out_C m c t h0 h1 (fun h j => term (argA m c) (argD m c) (bt t) h (512 * (t.val % 24) + j)) _ _ (fun q n => rfl) hC hG]
      exact yspec_eq m c t _ (fun q n => by rw [H.w, bt_pred t h0]) _ (fun h s => decay_eq m c t h s) s q
    · rw [out_B m c t h0 h1 (fun h j => term (argA m c) (argD m c) (bt t) h (512 * (t.val % 24) + j)) _ _ (fun q n => rfl) hC hG]
      exact yspec_eq m c t _ (fun q n => by rw [H.w, bt_pred t h0]) _ (fun h s => decay_eq m c t h s) s q

/-- The y the run leaves. -/
theorem final7 (c : Dev nD) : (dats m 0 c).arrAt 7 cfg0.N
    = fun i => yout (argY m c) (argC m c) (argA m c) (argD m c) (argX m c) (argS m c) (i 0) (i 1) (i 2) := by
  refine (dats m 0 c).arrAt_eq_of_covers 7 _ (by decide +kernel) fun t hf y => ?_
  blk_simp
  rw [after0_7]
  obtain ⟨u, s, q, rfl⟩ : ∃ (u : Fin 1) (s : Fin 512) (q : Fin 4096), y = ix3 u s q := ⟨y 0, y 1, y 2, by pointwise⟩
  obtain rfl : u = 0 := Subsingleton.elim _ _
  refine (out_eq m c t s q).trans ?_
  have e0 : (bt t : Fin 5) = (win0_7.blk t).view.emb (ix3 0 s q) 0 := Fin.ext (by
    blk_simp [idx t]
    rfl)
  have e1 : (tk t s : Fin 12288) = (win0_7.blk t).view.emb (ix3 0 s q) 1 := Fin.ext (by
    blk_simp [idx t]
    exact congrArg (· + s.val) (Nat.mul_comm 512 _))
  have e2 : (q : Fin 4096) = (win0_7.blk t).view.emb (ix3 0 s q) 2 := Fin.ext (by
    blk_simp [idx t])
  exact congr (congr (congrArg (yout (argY m c) (argC m c) (argA m c) (argD m c) (argX m c) (argS m c)) e0) e1) e2

end Cert.KernelIdeal.Val
-- ==== Proof.Head.lean ====
/-
  One head of the final state: the kernel's operations on it as functions of the buffers it loads, and their entries.
-/
module

public import proofs.«01_k».proof.Proof.State
public import proofs.«01_k».proof.Proof.Spec

@[expose] public section

set_option maxRecDepth 16384

noncomputable section

namespace Cert.KernelIdeal.Val
open Cert.Spec Cert.KernelIdeal Cert.KernelIdeal.Gen Idealize.ShloMosaic Idealize.ShloMosaic.TcCoe Idealize.SL.Sem
variable (m : (ℓ : Loc nD τ sig) → Buf (Elt Ideal) ℓ)

/-- The head's final state: the decayed codes times their scales, plus the state the tiles built up. -/
def hval (C : FVec Ideal S32x128 .f32) (o : ℕ) (ho : S32x128.Slices ![o, 0] S1x1) (s : FVec Ideal S1x1x128 .f32) (c : FVec Ideal S1x1x128x256 .fp8e4m3)
    (l : FVec Ideal S1x1x128x256 .f32) : FVec Ideal S128x256 .f32 :=
  addf (mulf (broadcastTo S128x256 (shapeCast S1x1 (extractStridedSlice S1x1 ![o, 0] (exp C) ho) shapeCasts_S1x1_S1x1) broadcasts_S1x1_S128x256)
      (mulf (extf .f32 (shapeCast S128x256 c shapeCasts_S1x1x128x256_S128x256) bitsLt_fp8e4m3_f32)
        (broadcastTo S128x256 (shapeCast S128x1 (multiReduction .add [1] S128
          (select (cmpi .eq (iota .tc S128x128 32 [0] iota_S128x128_d0_w32) (iota .tc S128x128 32 [1] iota_S128x128_d1_w32))
            (broadcastTo S128x128 (shapeCast S1x128 (shapeCast S1x128 s shapeCasts_S1x1x128_S1x128) shapeCasts_S1x128_S1x128) broadcasts_S1x128_S128x128)
            (broadcast S128x128 (Scalar.ofBits .f32 0x00000000#32))) 0x00000000#32 reduces_S128x128_S128 (.inl rfl) rfl) shapeCasts_S128_S128x1)
          broadcasts_S128x1_S128x256)))
    (shapeCast S128x256 l shapeCasts_S1x1x128x256_S128x256)

/-- Each row's largest magnitude over 448, on every lane. -/
def hmax (Y : FVec Ideal S128x256 .f32) : FVec Ideal S128x128 .f32 :=
  mulf (broadcastTo S128x128 (shapeCast S128x1 (shapeCast S128x1 (multiReduction .maximumf [1] S128 (absf Y) 0xFF800000#32 reduces_S128x256_S128 (.inl rfl) rfl)
    shapeCasts_S128_S128x1) shapeCasts_S128x1_S128x1) broadcasts_S128x1_S128x128) (broadcast S128x128 (Scalar.ofBits .f32 0x3B124925#32))

/-- One step of the search over the exponent field. -/
def vstep (v : FVec Ideal S128x128 .f32) (k : BitVec 32) (f : IVec S128x128 32) : IVec S128x128 32 :=
  select (cmpf .oge v (bitcastToFloat .f32 (shli (addi f (broadcast S128x128 k)) (broadcast S128x128 23#32)))) (addi f (broadcast S128x128 k)) f

/-- The search. -/
def vsearch (v : FVec Ideal S128x128 .f32) : IVec S128x128 32 :=
  vstep v 1#32 (vstep v 2#32 (vstep v 4#32 (vstep v 8#32 (vstep v 16#32 (vstep v 32#32 (vstep v 64#32 (vstep v 128#32 (broadcast S128x128 0#32))))))))

/-- The biased exponent. -/
def vbiased (v : FVec Ideal S128x128 .f32) : IVec S128x128 32 :=
  select (cmpf .oge v (broadcast S128x128 (Scalar.ofBits .f32 0x7E800000#32))) (broadcast S128x128 255#32) (vsearch v)

/-- The exponent of the scale. -/
def vexpo (v : FVec Ideal S128x128 .f32) : IVec S128x128 32 :=
  select (andi (cmpi .ne (vbiased v) (broadcast S128x128 0#32)) (cmpi .ne (vbiased v) (broadcast S128x128 255#32)))
    (subi (vbiased v) (broadcast S128x128 126#32)) (broadcast S128x128 0#32)

/-- The head's codes. -/
def hcodes (Y : FVec Ideal S128x256 .f32) : FVec Ideal S1x1x128x256 .fp8e4m3 :=
  shapeCast S1x1x128x256 (truncf .fp8e4m3 (minimumf (broadcast S128x256 (Scalar.ofBits .f32 0x43E00000#32))
    (maximumf (broadcast S128x256 (Scalar.ofBits .f32 0xC3E00000#32)) (mulf Y (broadcastTo S128x256
      (extractStridedSlice S128x1 ![0, 0] (bitcastToFloat .f32 (shli (subi (broadcast S128x128 127#32) (vexpo (hmax Y))) (broadcast S128x128 23#32)))
        slices_S128x128_o0_0_S128x1) broadcasts_S128x1_S128x256)))) bitsLt_fp8e4m3_f32) shapeCasts_S128x256_S1x1x128x256

/-- The head's scales. -/
def hscales (Y : FVec Ideal S128x256 .f32) : FVec Ideal S1x1x128 .f32 :=
  shapeCast S1x1x128 (shapeCast S1x128 (multiReduction .add [0] S128
    (select (cmpi .eq (iota .tc S128x128 32 [0] iota_S128x128_d0_w32) (iota .tc S128x128 32 [1] iota_S128x128_d1_w32))
      (broadcastTo S128x128 (shapeCast S128x1 (extractStridedSlice S128x1 ![0, 0]
        (bitcastToFloat .f32 (shli (addi (vexpo (hmax Y)) (broadcast S128x128 127#32)) (broadcast S128x128 23#32))) slices_S128x128_o0_0_S128x1)
        shapeCasts_S128x1_S128x1) broadcasts_S128x1_S128x128)
      (broadcast S128x128 (Scalar.ofBits .f32 0x00000000#32))) 0x00000000#32 reduces_S128x128_S128_2 (.inl rfl) rfl) shapeCasts_S128_S1x128)
    shapeCasts_S1x128_S1x1x128

/-- One step, entry by entry. -/
theorem vstep_apply (v : FVec Ideal S128x128 .f32) (k : BitVec 32) (f : IVec S128x128 32) (i : S128x128.Idx) : vstep v k f i = Pow2.step (v i) k (f i) := rfl

/-- The search, entry by entry. -/
theorem vsearch_apply (v : FVec Ideal S128x128 .f32) (i : S128x128.Idx) : vsearch v i = Pow2.search (v i) := by
  unfold vsearch Pow2.search
  iterate 8 rw [vstep_apply]
  rfl

/-- The biased exponent, entry by entry. -/
theorem vbiased_apply (v : FVec Ideal S128x128 .f32) (i : S128x128.Idx) : vbiased v i = Pow2.biased (v i) := by
  unfold Pow2.biased
  rw [← vsearch_apply]
  rfl

/-- The exponent of the scale, entry by entry. -/
theorem vexpo_apply (v : FVec Ideal S128x128 .f32) (i : S128x128.Idx) : vexpo v i = Pow2.expo (v i) := by
  unfold Pow2.expo
  rw [← vbiased_apply]
  rfl

/-- The final state's entry. -/
theorem hval_apply (C : FVec Ideal S32x128 .f32) (o : ℕ) (ho : S32x128.Slices ![o, 0] S1x1) (s : FVec Ideal S1x1x128 .f32) (c : FVec Ideal S1x1x128x256 .fp8e4m3)
    (l : FVec Ideal S1x1x128x256 .f32) (hh : o < 32) (r : Fin 128) (k : Fin 256) :
    hval C o ho s c l (ix2 r k) = Ideal.exp (C (ix2 ⟨o, hh⟩ 0)) * (c (ix4 0 0 r k) * s (ix3 0 0 r)) + l (ix4 0 0 r k) := by
  pointwise [hval]
  rw [diag_sum (by omega) (fun x => s (ix3 0 0 x)) r]

/-- The largest magnitude's entry. -/
theorem hmax_apply (Y : FVec Ideal S128x256 .f32) (r l : Fin 128) : hmax Y (ix2 r l) = amax (fun k => Y (ix2 r k)) := by
  pointwise [hmax]
  rfl

/-- The codes' entry. -/
theorem hcodes_apply (Y : FVec Ideal S128x256 .f32) (r : Fin 128) (k : Fin 256) : hcodes Y (ix4 0 0 r k) = qcode (fun k => Y (ix2 r k)) k := by
  pointwise [hcodes]
  rw [vexpo_apply, hmax_apply]
  rfl

/-- The scales' entry. -/
theorem hscales_apply (Y : FVec Ideal S128x256 .f32) (r : Fin 128) : hscales Y (ix3 0 0 r) = qscale (fun k => Y (ix2 r k)) := by
  pointwise [hscales]
  rw [diag_sum' (by omega) (fun x => Ideal.ofBits .f32 (IntOp.shli .vector (IntOp.addi (vexpo (hmax Y) (ix2 x 0)) 127#32) 23#32)) r, vexpo_apply, hmax_apply]
  rfl

/-- The final state of a batch, from its codes `X`, scales `S`, local state `H` and decay `E`. -/
def hspec (X : S1x32x128x256.Idx → EReal) (S : S1x32x128.Idx → EReal) (H : S1x32x128x256.Idx → EReal) (E : Fin 32 → EReal) (h : Fin 32) (r : Fin 128) (k : Fin 256) : EReal :=
  E h * (X (ix4 0 h r k) * S (ix3 0 h r)) + H (ix4 0 h r k)

/-- A slot of the carried vector. -/
theorem slot (o : ℕ) (ho : o < 32) : S32x128.Slices ![o, 0] S1x1 := by
  interval_cases o <;> decide

/-- A head's block of codes or state lies in the batch's. -/
theorem inX (o : ℕ) (ho : o < 32) : ∀ a, (![0, o, 0, 0] : Fin 4 → ℕ) a + S1x1x128x256.size a ≤ S1x32x128x256.size a := by
  interval_cases o <;> decide

/-- A head's block of scales lies in the batch's. -/
theorem inS (o : ℕ) (ho : o < 32) : ∀ a, (![0, o, 0] : Fin 3 → ℕ) a + S1x1x128.size a ≤ S1x32x128.size a := by
  interval_cases o <;> decide

/-- The head's final state, from the buffers its blocks are loaded from. -/
def hload (C : FVec Ideal S32x128 .f32) (X : S1x32x128x256.Idx → EReal) (S : S1x32x128.Idx → EReal) (H : S1x32x128x256.Idx → EReal) (o : ℕ) (ho : o < 32) :
    FVec Ideal S128x256 .f32 :=
  hval C o (slot o ho) (View.ld (Val := Elt Ideal) (e' := .f32) S (Rect.unit (s := S1x32x128) ![0, o, 0] S1x1x128.size (inS o ho)))
    (View.ld (Val := Elt Ideal) (e' := .fp8e4m3) X (Rect.unit (s := S1x32x128x256) ![0, o, 0, 0] S1x1x128x256.size (inX o ho)))
    (View.ld (Val := Elt Ideal) (e' := .f32) H (Rect.unit (s := S1x32x128x256) ![0, o, 0, 0] S1x1x128x256.size (inX o ho)))

/-- One head's block of a batch's scales. -/
theorem ld3 (S : S1x32x128.Idx → EReal) (o : ℕ) (ho : o < 32) (iS : ∀ a, (![0, o, 0] : Fin 3 → ℕ) a + S1x1x128.size a ≤ S1x32x128.size a) (r : Fin 128) :
    S ((Rect.unit (s := S1x32x128) ![0, o, 0] S1x1x128.size iS).toLoadRect.idx (ix3 0 0 r)) = S (ix3 0 ⟨o, ho⟩ r) := by
  pointwise

/-- Its entry. -/
theorem hload_apply (C : FVec Ideal S32x128 .f32) (X S H) (o : ℕ) (ho : o < 32) (E : Fin 32 → EReal) (hE : ∀ h l, Ideal.exp (C (ix2 h l)) = E h)
    (r : Fin 128) (k : Fin 256) : hload C X S H o ho (ix2 r k) = hspec X S H E ⟨o, ho⟩ r k := by
  refine (hval_apply C o (slot o ho) _ _ _ ho r k).trans ?_
  rw [hE]
  exact congrArg₂ (· + ·) (congrArg (E ⟨o, ho⟩ * ·) (congrArg₂ (· * ·) (ld4 X o ho (inX o ho) r k) (ld3 S o ho (inS o ho) r))) (ld4 H o ho (inX o ho) r k)

/-- One head's codes, as the kernel stores them. -/
theorem cpiece (C : FVec Ideal S32x128 .f32) (X S H) (E : Fin 32 → EReal) (hE : ∀ h l, Ideal.exp (C (ix2 h l)) = E h) (h : Fin 32) (r : Fin 128) (k : Fin 256)
    (x : S1x1x128x256.Idx) (o : ℕ) (h1 : h.val = o + (x 1).val) (h2 : r.val = (x 2).val) (h3 : k.val = (x 3).val) (ho : o < 32) :
    hcodes (hload C X S H o ho) x = qcode (hspec X S H E h r) k := by
  obtain ⟨x0, x1, x2, x3, rfl⟩ : ∃ (a : Fin 1) (b : Fin 1) (c : Fin 128) (d : Fin 256), x = ix4 a b c d := ⟨x 0, x 1, x 2, x 3, by pointwise⟩
  obtain rfl : x0 = 0 := Subsingleton.elim _ _
  obtain rfl : x1 = 0 := Subsingleton.elim _ _
  obtain rfl : r = x2 := Fin.ext h2
  obtain rfl : k = x3 := Fin.ext h3
  obtain rfl : h = ⟨o, ho⟩ := Fin.ext h1
  rw [hcodes_apply]
  exact congrArg (qcode · k) (funext fun k => hload_apply C X S H o ho E hE r k)

/-- One head's scales, as the kernel stores them. -/
theorem spiece (C : FVec Ideal S32x128 .f32) (X S H) (E : Fin 32 → EReal) (hE : ∀ h l, Ideal.exp (C (ix2 h l)) = E h) (h : Fin 32) (r : Fin 128)
    (x : S1x1x128.Idx) (o : ℕ) (h1 : h.val = o + (x 1).val) (h2 : r.val = (x 2).val) (ho : o < 32) :
    hscales (hload C X S H o ho) x = qscale (hspec X S H E h r) := by
  obtain ⟨x0, x1, x2, rfl⟩ : ∃ (a : Fin 1) (b : Fin 1) (c : Fin 128), x = ix3 a b c := ⟨x 0, x 1, x 2, by pointwise⟩
  obtain rfl : x0 = 0 := Subsingleton.elim _ _
  obtain rfl : x1 = 0 := Subsingleton.elim _ _
  obtain rfl : r = x2 := Fin.ext h2
  obtain rfl : h = ⟨o, ho⟩ := Fin.ext h1
  rw [hscales_apply]
  exact congrArg qscale (funext fun k => hload_apply C X S H o ho E hE r k)

end Cert.KernelIdeal.Val
-- ==== Proof.Last.lean ====
/-
  What the last tile of a batch stores of the final state: the codes of every head.
-/
module

public import proofs.«01_k».proof.Proof.Head

@[expose] public section

set_option maxRecDepth 16384

noncomputable section

namespace Cert.KernelIdeal.Val
open Cert.Spec Cert.KernelIdeal Cert.KernelIdeal.Gen Idealize.ShloMosaic Idealize.ShloMosaic.TcCoe Idealize.SL.Sem
variable (m : (ℓ : Loc nD τ sig) → Buf (Elt Ideal) ℓ)

set_option maxHeartbeats 2000000 in
/-- The codes the last tile of a batch stores: the quantiser's, of the final state of every head. -/
theorem codes_C (c : Dev nD) (t : Fin cfg0.N) (h0 : ¬t.val % 24 = 0) (h1 : t.val % 24 = 23) (G : Fin 32 → ℕ → EReal) (cc : Fin 32 → EReal)
    (hC : ∀ h l, (outsAt0 m c (t.val - 1) (by omega)).2.2.2.2.2 (ix2 h l) = cc h)
    (hG : ∀ h (l : Fin 128) (s : Fin 512), (outsAt0 m c (t.val - 1) (by omega)).2.2.2.2.1 (ix2 h l) * iblk m c 2 t (ix3 0 h s) = G h s.val)
    (h : Fin 32) (r : Fin 128) (k : Fin 256) :
    (outsAt0 m c t.val t.isLt).2.1 (ix4 0 h r k) = qcode (hspec (iblk m c 4 t) (iblk m c 5 t) (iblk m c 6 t) (fun h => Ideal.exp (cc h + ∑ j ∈ Finset.range 512, G h j)) h r) k := by
  rw [outsAt0_C m c t h0 h1]
  frame_open
  frame_out [read_unread_whole]
  generalize hK : k0_pay409 (F := Ideal) _ _ _ = K
  have hE : ∀ h l, Ideal.exp (K (ix2 h l)) = Ideal.exp (cc h + ∑ j ∈ Finset.range 512, G h j) := fun h l => by
    refine congrArg Ideal.exp ?_
    have e := carry_apply (outsAt0 m c (t.val - 1) (by omega)).2.2.2.2.1 (outsAt0 m c (t.val - 1) (by omega)).2.2.2.2.2
      (quarter (iblk m c 2 t) 0 inb_S1x32x512_S1x32x128_0_0_0) (quarter (iblk m c 2 t) 128 inb_S1x32x512_S1x32x128_0_0_128)
      (quarter (iblk m c 2 t) 256 inb_S1x32x512_S1x32x128_0_0_256) (quarter (iblk m c 2 t) 384 inb_S1x32x512_S1x32x128_0_0_384)
      h (G h) (cc h) (hC h) (quarters _ _ h _ (hG h) 0 _ (by omega)) (quarters _ _ h _ (hG h) 128 _ (by omega)) (quarters _ _ h _ (hG h) 256 _ (by omega)) (quarters _ _ h _ (hG h) 384 _ (by omega)) l
    rw [← shapeCast_self (last _) shapeCasts_S32x128_S32x128] at e
    rw [← hK]
    exact e
  clear hK
  have key := cpiece K (iblk m c 4 t) (iblk m c 5 t) (iblk m c 6 t) (fun h => Ideal.exp (cc h + ∑ j ∈ Finset.range 512, G h j)) hE h r k
  canon_tiles x hx
  all_goals first
    | exact key x _ hx1 hx2 hx3 (by decide)
    | exact key x _ (hx1.trans (Nat.zero_add _).symm) hx2 hx3 (by decide)

end Cert.KernelIdeal.Val
-- ==== Proof.LastScales.lean ====
/-
  What the last tile of a batch stores of the final state: the scales of every head.
-/
module

public import proofs.«01_k».proof.Proof.Head

@[expose] public section

set_option maxRecDepth 16384

noncomputable section

namespace Cert.KernelIdeal.Val
open Cert.Spec Cert.KernelIdeal Cert.KernelIdeal.Gen Idealize.ShloMosaic Idealize.ShloMosaic.TcCoe Idealize.SL.Sem
variable (m : (ℓ : Loc nD τ sig) → Buf (Elt Ideal) ℓ)

set_option maxHeartbeats 2000000 in
/-- The scales the last tile of a batch stores: the quantiser's, of the final state of every head. -/
theorem scales_C (c : Dev nD) (t : Fin cfg0.N) (h0 : ¬t.val % 24 = 0) (h1 : t.val % 24 = 23) (G : Fin 32 → ℕ → EReal) (cc : Fin 32 → EReal)
    (hC : ∀ h l, (outsAt0 m c (t.val - 1) (by omega)).2.2.2.2.2 (ix2 h l) = cc h)
    (hG : ∀ h (l : Fin 128) (s : Fin 512), (outsAt0 m c (t.val - 1) (by omega)).2.2.2.2.1 (ix2 h l) * iblk m c 2 t (ix3 0 h s) = G h s.val)
    (h : Fin 32) (r : Fin 128) :
    (outsAt0 m c t.val t.isLt).2.2.1 (ix3 0 h r) = qscale (hspec (iblk m c 4 t) (iblk m c 5 t) (iblk m c 6 t) (fun h => Ideal.exp (cc h + ∑ j ∈ Finset.range 512, G h j)) h r) := by
  rw [outsAt0_C m c t h0 h1]
  frame_open
  frame_out [read_unread_whole]
  generalize hK : k0_pay409 (F := Ideal) _ _ _ = K
  have hE : ∀ h l, Ideal.exp (K (ix2 h l)) = Ideal.exp (cc h + ∑ j ∈ Finset.range 512, G h j) := fun h l => by
    refine congrArg Ideal.exp ?_
    have e := carry_apply (outsAt0 m c (t.val - 1) (by omega)).2.2.2.2.1 (outsAt0 m c (t.val - 1) (by omega)).2.2.2.2.2
      (quarter (iblk m c 2 t) 0 inb_S1x32x512_S1x32x128_0_0_0) (quarter (iblk m c 2 t) 128 inb_S1x32x512_S1x32x128_0_0_128)
      (quarter (iblk m c 2 t) 256 inb_S1x32x512_S1x32x128_0_0_256) (quarter (iblk m c 2 t) 384 inb_S1x32x512_S1x32x128_0_0_384)
      h (G h) (cc h) (hC h) (quarters _ _ h _ (hG h) 0 _ (by omega)) (quarters _ _ h _ (hG h) 128 _ (by omega)) (quarters _ _ h _ (hG h) 256 _ (by omega)) (quarters _ _ h _ (hG h) 384 _ (by omega)) l
    rw [← shapeCast_self (last _) shapeCasts_S32x128_S32x128] at e
    rw [← hK]
    exact e
  clear hK
  have key := spiece K (iblk m c 4 t) (iblk m c 5 t) (iblk m c 6 t) (fun h => Ideal.exp (cc h + ∑ j ∈ Finset.range 512, G h j)) hE h r
  canon_tiles x hx
  all_goals first
    | exact key x _ hx1 hx2 (by decide)
    | exact key x _ (hx1.trans (Nat.zero_add _).symm) hx2 (by decide)

end Cert.KernelIdeal.Val
-- ==== Proof.Final.lean ====
/-
  The codes and the scales the kernel's run leaves: what the last tile of every batch stores, read over the arguments.
-/
module

public import proofs.«01_k».proof.Proof.Sweep
public import proofs.«01_k».proof.Proof.Last
public import proofs.«01_k».proof.Proof.LastScales

@[expose] public section

set_option maxRecDepth 16384

noncomputable section

namespace Cert.KernelIdeal.Val
open Cert.Spec Cert.KernelIdeal Cert.KernelIdeal.Gen Idealize.ShloMosaic Idealize.ShloMosaic.TcCoe Idealize.SL.Sem Pipeline
variable (m : (ℓ : Loc nD τ sig) → Buf (Elt Ideal) ℓ)

/-- The final state the last tile of a batch works out for a head's row, over the arguments. -/
theorem hspec_eq (c : Dev nD) (t : Fin cfg0.N) (h1 : t.val % 24 = 23) (h : Fin 32) (r : Fin 128) :
    hspec (iblk m c 4 t) (iblk m c 5 t) (iblk m c 6 t) (fun h => Ideal.exp (run (argA m c) (argD m c) (bt t) h (512 * (t.val % 24))
        + ∑ j ∈ Finset.range 512, term (argA m c) (argD m c) (bt t) h (512 * (t.val % 24) + j))) h r
      = state (argA m c) (argD m c) (argX m c) (argS m c) (argH m c) (bt t) h r := by
  funext k
  unfold hspec state
  beta_reduce
  rw [← run_add, h1]
  exact congrArg₂ (· + ·) (congrArg₂ (· * ·) rfl (congrArg₂ (· * ·) (codes_blk m c t h r k) (scales_blk m c t h r))) (local_blk m c t h r k)

/-- The codes the last tile of a batch stores, over the arguments. -/
theorem codes_eq (c : Dev nD) (t : Fin cfg0.N) (h1 : t.val % 24 = 23) (h : Fin 32) (r : Fin 128) (k : Fin 256) :
    (outsAt0 m c t.val t.isLt).2.1 (ix4 0 h r k) = qcode (state (argA m c) (argD m c) (argX m c) (argS m c) (argH m c) (bt t) h r) k := by
  have h0 : ¬t.val % 24 = 0 := by omega
  have hp : t.val - 1 < cfg0.N := by omega
  have H := held m c (t.val - 1) hp
  have hC := run_pred m c t h0 hp H
  have hG : ∀ h (l : Fin 128) (s : Fin 512), (outsAt0 m c (t.val - 1) hp).2.2.2.2.1 (ix2 h l) * iblk m c 2 t (ix3 0 h s)
      = term (argA m c) (argD m c) (bt t) h (512 * (t.val % 24) + s.val) := fun h l s => by rw [H.a]; exact term_blk m c t h s
  rw [codes_C m c t h0 h1 (fun h j => term (argA m c) (argD m c) (bt t) h (512 * (t.val % 24) + j)) _ hC hG h r k]
  exact congrArg (fun f => qcode f k) (hspec_eq m c t h1 h r)

/-- The scales the last tile of a batch stores, over the arguments. -/
theorem scales_eq (c : Dev nD) (t : Fin cfg0.N) (h1 : t.val % 24 = 23) (h : Fin 32) (r : Fin 128) :
    (outsAt0 m c t.val t.isLt).2.2.1 (ix3 0 h r) = qscale (state (argA m c) (argD m c) (argX m c) (argS m c) (argH m c) (bt t) h r) := by
  have h0 : ¬t.val % 24 = 0 := by omega
  have hp : t.val - 1 < cfg0.N := by omega
  have H := held m c (t.val - 1) hp
  have hC := run_pred m c t h0 hp H
  have hG : ∀ h (l : Fin 128) (s : Fin 512), (outsAt0 m c (t.val - 1) hp).2.2.2.2.1 (ix2 h l) * iblk m c 2 t (ix3 0 h s)
      = term (argA m c) (argD m c) (bt t) h (512 * (t.val % 24) + s.val) := fun h l s => by rw [H.a]; exact term_blk m c t h s
  rw [scales_C m c t h0 h1 (fun h j => term (argA m c) (argD m c) (bt t) h (512 * (t.val % 24) + j)) _ hC hG h r]
  exact congrArg qscale (hspec_eq m c t h1 h r)

/-- The codes the run leaves. -/
theorem final8 (c : Dev nD) : (dats m 0 c).arrAt 8 cfg0.N
    = fun i => qcode (state (argA m c) (argD m c) (argX m c) (argS m c) (argH m c) (i 0) (i 1) (i 2)) (i 3) := by
  refine (dats m 0 c).arrAt_eq_of_covers 8 _ (by decide +kernel) fun t hf y => ?_
  have h1 := (flush0_8 t).mp hf
  blk_simp
  rw [after0_8]
  obtain ⟨u, h, r, k, rfl⟩ : ∃ (u : Fin 1) (h : Fin 32) (r : Fin 128) (k : Fin 256), y = ix4 u h r k := ⟨y 0, y 1, y 2, y 3, by pointwise⟩
  obtain rfl : u = 0 := Subsingleton.elim _ _
  refine (codes_eq m c t h1 h r k).trans ?_
  have e0 : (bt t : Fin 5) = (win0_8.blk t).view.emb (ix4 0 h r k) 0 := Fin.ext (by
    blk_simp [idx t]
    rfl)
  have e1 : (h : Fin 32) = (win0_8.blk t).view.emb (ix4 0 h r k) 1 := Fin.ext (by
    blk_simp [idx t])
  have e2 : (r : Fin 128) = (win0_8.blk t).view.emb (ix4 0 h r k) 2 := Fin.ext (by
    blk_simp [idx t])
  have e3 : (k : Fin 256) = (win0_8.blk t).view.emb (ix4 0 h r k) 3 := Fin.ext (by
    blk_simp [idx t])
  exact congr (congrArg qcode (congr (congr (congrArg (state (argA m c) (argD m c) (argX m c) (argS m c) (argH m c)) e0) e1) e2)) e3

/-- The scales the run leaves. -/
theorem final9 (c : Dev nD) : (dats m 0 c).arrAt 9 cfg0.N
    = fun i => qscale (state (argA m c) (argD m c) (argX m c) (argS m c) (argH m c) (i 0) (i 1) (i 2)) := by
  refine (dats m 0 c).arrAt_eq_of_covers 9 _ (by decide +kernel) fun t hf y => ?_
  have h1 := (flush0_9 t).mp hf
  blk_simp
  rw [after0_9]
  obtain ⟨u, h, r, rfl⟩ : ∃ (u : Fin 1) (h : Fin 32) (r : Fin 128), y = ix3 u h r := ⟨y 0, y 1, y 2, by pointwise⟩
  obtain rfl : u = 0 := Subsingleton.elim _ _
  refine (scales_eq m c t h1 h r).trans ?_
  have e0 : (bt t : Fin 5) = (win0_9.blk t).view.emb (ix3 0 h r) 0 := Fin.ext (by
    blk_simp [idx t]
    rfl)
  have e1 : (h : Fin 32) = (win0_9.blk t).view.emb (ix3 0 h r) 1 := Fin.ext (by
    blk_simp [idx t])
  have e2 : (r : Fin 128) = (win0_9.blk t).view.emb (ix3 0 h r) 2 := Fin.ext (by
    blk_simp [idx t])
  exact congrArg qscale (congr (congr (congrArg (state (argA m c) (argD m c) (argX m c) (argS m c) (argH m c)) e0) e1) e2)

end Cert.KernelIdeal.Val
-- ==== Proof.RefQuant.lean ====
/-
  The reference's quantiser: the final state's entries, a row's largest magnitude, the scale and the codes.
-/
module

public import proofs.«01_k».proof.Proof.Gen.ReferenceIdeal.Frame
public import proofs.«01_k».proof.Proof.Spec

@[expose] public section

set_option maxRecDepth 16384

noncomputable section

namespace Cert.ReferenceIdeal.Val
open Cert.Spec Cert.ReferenceIdeal Cert.ReferenceIdeal.Gen Idealize.ShloMosaic Idealize.ShloMosaic.TcCoe Idealize.SL.Sem Pipeline

/-- The powers of two the reference chooses its scale among. -/
def powers (i : Fin 253) : EReal := Ideal.exp2 (((BitVec.ofNat 32 i.val - 125#32).toInt : ℝ) : EReal)

/-- They are the normal powers of two from the second on. -/
theorem powers_eq (i : Fin 253) : powers i = Pow2.field (i.val + 2) := by
  have hi := i.isLt
  have h : (BitVec.ofNat 32 i.val - 125#32).toInt = (i.val : ℤ) - 125 := by
    revert i
    decide +kernel
  unfold powers
  rw [h, Ideal.exp2_coe, Pow2.field_normal (by omega) (by omega)]
  refine congrArg ((↑) : ℝ → EReal) ?_
  show (2 : ℝ) ^ ((((i.val : ℤ) - 125 : ℤ)) : ℝ) = _
  rw [Real.rpow_intCast]
  congr 1
  push_cast
  ring

variable (fd : FVec Ideal S5x32 .f32) (x : FVec Ideal S5x32x128x256 .fp8e4m3) (sc : FVec Ideal S5x32x128 .f32) (hl : FVec Ideal S5x32x128x256 .f32)

/-- The final state's entry. -/
theorem pay4_apply (b : Fin 5) (h : Fin 32) (r : Fin 128) (k : Fin 256) :
    k0_pay4 (F := Ideal) fd x sc hl (ix4 b h r k) = fd (ix2 b h) * (x (ix4 b h r k) * sc (ix3 b h r)) + hl (ix4 b h r k) := by
  pointwise [k0_pay4]

/-- A minimum over one axis is the fold of `min` over that axis's coordinates. -/
theorem min_single {φ : FTy} {s t : Shape} {a : Fin s.rank} (src : FVec Ideal s φ) (acc : BitVec φ.bits) (h : s.Reduces [a] t) (hφ : FKind.Formats φ)
    (hacc : acc = FKind.minimumf.neutral φ hφ) (j : t.Idx) :
    multiReduction .minimumf [a] t src acc h hφ hacc j = (Finset.univ : Finset (Fin (s.size a))).fold min (FloatOps.ofBits φ acc) (src ∘ h.lift j) := by
  rw [multiReduction_minimumf_eq_fold]
  exact h.fold_filter_drop_single _ _ src j

/-- The row an entry of the maxima is taken over. -/
theorem lift_row (b : Fin 5) (h : Fin 32) (r : Fin 128) (k : Fin 256) : reduces_S5x32x128x256_S5x32x128.lift (ix3 b h r) k = ix4 b h r k := by
  funext a
  apply Fin.ext
  match a with
  | ⟨0, _⟩ => rfl
  | ⟨1, _⟩ => rfl
  | ⟨2, _⟩ => rfl
  | ⟨3, _⟩ => rfl

/-- The powers an entry of the minima is taken over. -/
theorem lift_pow (b : Fin 5) (h : Fin 32) (r : Fin 128) (k : Fin 253) : reduces_S5x32x128x253_S5x32x128.lift (ix3 b h r) k = ix4 b h r k := by
  funext a
  apply Fin.ext
  match a with
  | ⟨0, _⟩ => rfl
  | ⟨1, _⟩ => rfl
  | ⟨2, _⟩ => rfl
  | ⟨3, _⟩ => rfl

/-- A row's maximum. -/
theorem most_apply (A : FVec Ideal S5x32x128x256 .f32) (b : Fin 5) (h : Fin 32) (r : Fin 128) (p : Fin 256 → EReal) (hA : ∀ k, A (ix4 b h r k) = p k) :
    multiReduction .maximumf [3] S5x32x128 A 0xFF800000#32 reduces_S5x32x128x256_S5x32x128 (.inl rfl) rfl (ix3 b h r)
      = Finset.univ.fold max (Ideal.ofBits .f32 0xFF800000#32) p := by
  refine (Ideal.multiReduction_maximumf_single _ _ _ _ _ _).trans ?_
  refine congrArg (fun g => Finset.fold max (Ideal.ofBits .f32 0xFF800000#32) g Finset.univ) (funext fun k => ?_)
  exact (congrArg A (lift_row b h r k)).trans (hA k)

/-- A row's minimum over the powers. -/
theorem least_apply (A : FVec Ideal S5x32x128x253 .f32) (b : Fin 5) (h : Fin 32) (r : Fin 128) (p : Fin 253 → EReal) (hA : ∀ k, A (ix4 b h r k) = p k) :
    multiReduction .minimumf [3] S5x32x128 A 0x7F800000#32 reduces_S5x32x128x253_S5x32x128 (.inl rfl) rfl (ix3 b h r)
      = Finset.univ.fold min (Ideal.ofBits .f32 0x7F800000#32) p := by
  refine (min_single _ _ _ _ _ _).trans ?_
  refine congrArg (fun g => Finset.fold min (Ideal.ofBits .f32 0x7F800000#32) g Finset.univ) (funext fun k => ?_)
  exact (congrArg A (lift_pow b h r k)).trans (hA k)

/-- The largest magnitudes, before they are divided by 448. -/
def most (A : FVec Ideal S5x32x128x256 .f32) : FVec Ideal S5x32x128 .f32 :=
  multiReduction .maximumf [3] S5x32x128 (absf A) 0xFF800000#32 reduces_S5x32x128x256_S5x32x128 (.inl rfl) rfl

/-- A row's largest magnitude over 448. -/
theorem pay5_apply (b : Fin 5) (h : Fin 32) (r : Fin 128) :
    k0_pay5 (F := Ideal) fd x sc hl (ix3 b h r) = amax fun k => k0_pay4 (F := Ideal) fd x sc hl (ix4 b h r k) := by
  have hk : k0_pay5 (F := Ideal) fd x sc hl = mulf (most (k0_pay4 (F := Ideal) fd x sc hl)) (broadcast S5x32x128 (Scalar.ofBits .f32 0x3B124925#32)) := rfl
  have e : most (k0_pay4 (F := Ideal) fd x sc hl) (ix3 b h r) = _ := most_apply _ b h r _ fun k => rfl
  rw [hk]
  generalize most (k0_pay4 (F := Ideal) fd x sc hl) = M at e
  rw [mulf_apply, e]
  rfl

/-- A power's entry: itself where it is above the row's largest magnitude over 448. -/
def above (v : FVec Ideal S5x32x128 .f32) : FVec Ideal S5x32x128x253 .f32 :=
  select (cmpf .ogt (exp2 (sitofp .f32 (subi (iota .tc S5x32x128x253 32 [3] iota_S5x32x128x253_d3_w32) (broadcast S5x32x128x253 125#32))))
      (broadcastTo S5x32x128x253 (shapeCast S5x32x128x1 v shapeCasts_S5x32x128_S5x32x128x1) broadcasts_S5x32x128x1_S5x32x128x253))
    (exp2 (sitofp .f32 (subi (iota .tc S5x32x128x253 32 [3] iota_S5x32x128x253_d3_w32) (broadcast S5x32x128x253 125#32))))
    (broadcast S5x32x128x253 (Scalar.ofBits .f32 0x7F800000#32))

/-- Read at an index. -/
theorem above_apply (v : FVec Ideal S5x32x128 .f32) (b : Fin 5) (h : Fin 32) (r : Fin 128) (i : Fin 253) :
    above v (ix4 b h r i) = if v (ix3 b h r) < powers i then powers i else Ideal.ofBits .f32 0x7F800000#32 := by
  pointwise [above]
  rfl

/-- The least power above it. -/
theorem pay6_apply (b : Fin 5) (h : Fin 32) (r : Fin 128) :
    k0_pay6 (F := Ideal) fd x sc hl (ix3 b h r) = Finset.univ.fold min (Ideal.ofBits .f32 0x7F800000#32)
      fun i => if k0_pay5 (F := Ideal) fd x sc hl (ix3 b h r) < powers i then powers i else Ideal.ofBits .f32 0x7F800000#32 := by
  unfold k0_pay6
  generalize k0_pay5 (F := Ideal) fd x sc hl = v
  exact least_apply (above v) b h r _ fun i => above_apply v b h r i

/-- The scale's entry, from the values it is chosen by. -/
theorem pay1_apply (v w z : FVec Ideal S5x32x128 .f32) (b : Fin 5) (h : Fin 32) (r : Fin 128) :
    k0_pay1 (F := Ideal) v w z (ix3 b h r) = Scalar.select (IntOp.andi (Ideal.cmp .oge (v (ix3 b h r)) (z (ix3 b h r)))
      (Ideal.cmp .olt (v (ix3 b h r)) (Ideal.ofBits .f32 0x7E800000#32))) (w (ix3 b h r)) (Ideal.ofBits .f32 0x3F800000#32) := rfl

/-- The codes' entry, from the values they are made of. -/
theorem pay2_apply (y : FVec Ideal S5x32x128x256 .f32) (v w z : FVec Ideal S5x32x128 .f32) (b : Fin 5) (h : Fin 32) (r : Fin 128) (k : Fin 256) :
    k0_pay2 (F := Ideal) y v w z (ix4 b h r k)
      = min (Ideal.ofBits .f32 0x43E00000#32) (max (Ideal.ofBits .f32 0xC3E00000#32) (y (ix4 b h r k)
          * Ideal.div (Ideal.ofBits .f32 0x3F800000#32) (k0_pay1 (F := Ideal) v w z (ix3 b h r)))) := by
  unfold k0_pay2
  generalize k0_pay1 (F := Ideal) v w z = q
  pointwise

/-- The pattern of one. -/
theorem one_bits : Ideal.ofBits .f32 0x3F800000#32 = 1 := Pow2.one_eq

/-- The reference's final state, row by row, when its blocks hold it. -/
theorem scale_ref (g : Fin 256 → EReal) (b : Fin 5) (h : Fin 32) (r : Fin 128) (hg : ∀ k, k0_pay4 (F := Ideal) fd x sc hl (ix4 b h r k) = g k) :
    k0_pay1 (F := Ideal) (k0_pay5 (F := Ideal) fd x sc hl) (k0_pay6 (F := Ideal) fd x sc hl) (k0_pay7 (F := Ideal)) (ix3 b h r) = Pow2.scaleR powers (amax g) := by
  rw [pay1_apply, pay6_apply, pay5_apply, funext hg, one_bits]
  rfl

/-- The reference's scale is the quantiser's. -/
theorem scale_spec (g : Fin 256 → EReal) (b : Fin 5) (h : Fin 32) (r : Fin 128) (hg : ∀ k, k0_pay4 (F := Ideal) fd x sc hl (ix4 b h r k) = g k) :
    k0_pay1 (F := Ideal) (k0_pay5 (F := Ideal) fd x sc hl) (k0_pay6 (F := Ideal) fd x sc hl) (k0_pay7 (F := Ideal)) (ix3 b h r) = qscale g :=
  (scale_ref fd x sc hl g b h r hg).trans (Pow2.scale_eq powers powers_eq (amax g)).1.symm

/-- The reference's codes are the quantiser's. -/
theorem code_spec (g : Fin 256 → EReal) (b : Fin 5) (h : Fin 32) (r : Fin 128) (k : Fin 256) (hg : ∀ k, k0_pay4 (F := Ideal) fd x sc hl (ix4 b h r k) = g k) :
    k0_pay2 (F := Ideal) (k0_pay4 (F := Ideal) fd x sc hl) (k0_pay5 (F := Ideal) fd x sc hl) (k0_pay6 (F := Ideal) fd x sc hl) (k0_pay7 (F := Ideal)) (ix4 b h r k)
      = qcode g k := by
  rw [pay2_apply, scale_ref fd x sc hl g b h r hg, hg, one_bits, ← (Pow2.scale_eq powers powers_eq (amax g)).2]
  rfl

end Cert.ReferenceIdeal.Val
-- ==== Proof.RefScan.lean ====
/-
  The reference's running sum: jnp's `cumsum` along the tokens is the sum over the tokens up to each.
-/
module

public import proofs.«01_k».proof.Proof.Spec
public import Idealize.ShloMosaic.Lib.Pipeline.Value

@[expose] public section

set_option maxRecDepth 16384

noncomputable section

namespace Cert.RefScan
open Idealize.ShloMosaic Idealize.ShloMosaic.TcCoe

/-- A left fold of addition is the start plus the sum. -/
theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A window that ends at `j` and is padded low with zeros sums the entries up to `j`. -/
theorem sum_window (N : ℕ) (f : ℕ → EReal) (j : ℕ) (hj : j < N) :
    ((List.finRange N).map fun w : Fin N => if N - 1 ≤ j + w.val then f (j + w.val - (N - 1)) else 0).sum = ∑ i ∈ Finset.range (j + 1), f i := by
  rw [← List.ofFn_eq_map, List.sum_ofFn, Fin.sum_univ_eq_sum_range (fun w => if N - 1 ≤ j + w then f (j + w - (N - 1)) else 0) N]
  obtain ⟨d, rfl⟩ : ∃ d, N = d + (j + 1) := ⟨N - (j + 1), by omega⟩
  rw [Finset.sum_range_add, Finset.sum_eq_zero fun w hw => if_neg (by have := Finset.mem_range.1 hw; omega), zero_add]
  refine Finset.sum_congr rfl fun w hw => ?_
  rw [if_pos (by omega)]
  exact congrArg f (by omega)

/-- The window's shape: one batch, every token, one head. -/
abbrev W : Shape := ⟨3, ![1, 12288, 1]⟩

/-- It has one position for each token. -/
theorem numel_W : W.numel = 12288 := by
  show ∏ a : Fin 3, (![1, 12288, 1] : Fin 3 → ℕ) a = 12288
  rw [Fin.prod_univ_three]
  rfl

/-- Position `n` is token `n`. -/
theorem symm_W (n : Fin W.numel) : W.rowMajor.symm n = ix3 (0 : Fin 1) (n.cast numel_W) (0 : Fin 1) :=
  (W.rowMajor.symm_apply_eq).2 (Fin.ext (by
    rw [Shape.rowMajor_val_three]
    show n.val = (0 * 12288 + n.val) * 1 + 0
    omega))

/-- A function of the token alone, listed over the positions, is that function listed over the tokens. -/
theorem map_W (g : ℕ → EReal) : (List.finRange 12288).map (fun n => g n.val) = (List.finRange W.numel).map fun n => g n.val :=
  congrArg (fun N => (List.finRange N).map fun n : Fin N => g n.val) numel_W.symm

/-- The shape summed over: batches, tokens, heads. -/
abbrev S : Shape := ⟨3, ![5, 12288, 32]⟩

/-- jnp's `cumsum` along the tokens, as it prints: each entry is the sum of its batch and head up to its token. -/
theorem cumsum (x : FVec Ideal S .f32) (init : (⟨0, ![]⟩ : Shape).Idx → EReal) (hinit : ∀ i, init i = 0)
    (h : S.ReduceWindows (![1, 12288, 1] : Fin 3 → ℕ) ![1, 1, 1] ![0, 12287, 0] ![0, 0, 0] S) (hu : 0 < (⟨0, ![]⟩ : Shape).numel)
    (b : Fin 5) (j : Fin 12288) (e : Fin 32) (f : ℕ → EReal) (hf : ∀ i : Fin 12288, x (ix3 b i e) = f i.val) :
    Host.reduceWindowAdd (F := Ideal) (φ := .f32) ![1, 12288, 1] ![1, 1, 1] ![0, 12287, 0] ![0, 0, 0] x init h hu (ix3 b j e)
      = ∑ i ∈ Finset.range (j.val + 1), f i := by
  unfold Host.reduceWindowAdd
  rw [Ideal.hostReduceWindowAdd_def]
  unfold Ideal.hostReduceWindowAdd Host.reduceWindow
  refine (foldl_add _ _ _).trans ?_
  rw [show init (Shape.Idx.first hu) = 0 from hinit _, zero_add]
  refine Eq.trans ?_ (sum_window 12288 f j.val j.isLt)
  rw [map_W fun w => if 12287 ≤ j.val + w then f (j.val + w - 12287) else 0]
  · refine congrArg List.sum (List.map_congr_left fun n _ => ?_)
    have hw0 : (W.rowMajor.symm n 0).val = 0 := by rw [symm_W]; rfl
    have hw1 : (W.rowMajor.symm n 1).val = n.val := by rw [symm_W]; rfl
    have hw2 : (W.rowMajor.symm n 2).val = 0 := by rw [symm_W]; rfl
    have hn : n.val < 12288 := (n.cast numel_W).isLt
    have hj := j.isLt
    have hb := b.isLt
    have he := e.isLt
    split
    · next hin =>
      have h1 := hin 1
      change 12287 ≤ j.val * 1 + (W.rowMajor.symm n 1).val ∧ j.val * 1 + (W.rowMajor.symm n 1).val - 12287 < 12288 at h1
      rw [hw1] at h1
      rw [if_pos (by omega)]
      refine (congrArg x (funext fun a => Fin.ext ?_)).trans (hf ⟨j.val + n.val - 12287, by omega⟩)
      match a with
      | ⟨0, _⟩ =>
        show b.val * 1 + (W.rowMajor.symm n 0).val - 0 = b.val
        rw [hw0]; omega
      | ⟨1, _⟩ =>
        show j.val * 1 + (W.rowMajor.symm n 1).val - 12287 = j.val + n.val - 12287
        rw [hw1, Nat.mul_one]
      | ⟨2, _⟩ =>
        show e.val * 1 + (W.rowMajor.symm n 2).val - 0 = e.val
        rw [hw2]; omega
    · next hin =>
      rw [if_neg fun hle => hin fun a => by
        match a with
        | ⟨0, _⟩ =>
          show 0 ≤ b.val * 1 + (W.rowMajor.symm n 0).val ∧ b.val * 1 + (W.rowMajor.symm n 0).val - 0 < 5
          rw [hw0]; omega
        | ⟨1, _⟩ =>
          show 12287 ≤ j.val * 1 + (W.rowMajor.symm n 1).val ∧ j.val * 1 + (W.rowMajor.symm n 1).val - 12287 < 12288
          rw [hw1]; omega
        | ⟨2, _⟩ =>
          show 0 ≤ e.val * 1 + (W.rowMajor.symm n 2).val ∧ e.val * 1 + (W.rowMajor.symm n 2).val - 0 < 32
          rw [hw2]; omega]

end Cert.RefScan
-- ==== Proof.RefBlocks.lean ====
/-
  The reference's one launch: its blocks are whole arrays, and its three outputs are the payloads of the whole arrays.
-/
module

public import proofs.«01_k».proof.Proof.RefQuant
public import proofs.«01_k».proof.Proof.RefScan

@[expose] public section

set_option maxRecDepth 16384

noncomputable section

namespace Cert.ReferenceIdeal.Val
open Cert.Spec Cert.ReferenceIdeal Cert.ReferenceIdeal.Gen Idealize.ShloMosaic Idealize.ShloMosaic.TcCoe Idealize.SL.Sem Pipeline
variable (m : (ℓ : Loc nD τ sig) → Buf (Elt Ideal) ℓ)

/-- The seven windows stand at block zero at the one grid point. -/
theorem idx : ∀ t : Fin cfg0.N, win0_0.index t = ![0, 0] ∧ win0_1.index t = ![0, 0, 0, 0] ∧ win0_2.index t = ![0, 0, 0]
    ∧ win0_3.index t = ![0, 0, 0, 0] ∧ win0_4.index t = ![0, 0, 0, 0] ∧ win0_5.index t = ![0, 0, 0, 0] ∧ win0_6.index t = ![0, 0, 0] := by
  decide +kernel

/-- A whole block of the decays sits in its array where it is. -/
theorem emb0 (t : Fin cfg0.N) (y : S5x32.Idx) : (win0_0.blk t).view.emb y = y := by blk_ext [idx t]
/-- A whole block of the incoming codes sits in its array where it is. -/
theorem emb1 (t : Fin cfg0.N) (y : S5x32x128x256.Idx) : (win0_1.blk t).view.emb y = y := by blk_ext [idx t]
/-- A whole block of the incoming scales sits in its array where it is. -/
theorem emb2 (t : Fin cfg0.N) (y : S5x32x128.Idx) : (win0_2.blk t).view.emb y = y := by blk_ext [idx t]
/-- A whole block of the local states sits in its array where it is. -/
theorem emb3 (t : Fin cfg0.N) (y : S5x32x128x256.Idx) : (win0_3.blk t).view.emb y = y := by blk_ext [idx t]
/-- A whole block of the read codes sits in its array where it is. -/
theorem emb4 (t : Fin cfg0.N) (y : S5x32x128x256.Idx) : (win0_4.blk t).view.emb y = y := by blk_ext [idx t]
/-- A whole block of the new codes sits in its array where it is. -/
theorem emb5 (t : Fin cfg0.N) (y : S5x32x128x256.Idx) : (win0_5.blk t).view.emb y = y := by blk_ext [idx t]
/-- A whole block of the new scales sits in its array where it is. -/
theorem emb6 (t : Fin cfg0.N) (y : S5x32x128.Idx) : (win0_6.blk t).view.emb y = y := by blk_ext [idx t]

/-- The decays' block is the array of decays. -/
theorem iblk0 (c : Dev nD) (t : Fin cfg0.N) : iblk m c 0 t = V m c main_v8 := funext fun y => congrArg (V m c main_v8) (emb0 t y)
/-- The incoming codes' block is the argument. -/
theorem iblk1 (c : Dev nD) (t : Fin cfg0.N) : iblk m c 1 t = V m c main_arg4 := funext fun y => congrArg (V m c main_arg4) (emb1 t y)
/-- The incoming scales' block is the argument. -/
theorem iblk2 (c : Dev nD) (t : Fin cfg0.N) : iblk m c 2 t = V m c main_arg5 := funext fun y => congrArg (V m c main_arg5) (emb2 t y)
/-- The local states' block is the argument. -/
theorem iblk3 (c : Dev nD) (t : Fin cfg0.N) : iblk m c 3 t = V m c main_arg6 := funext fun y => congrArg (V m c main_arg6) (emb3 t y)

section
variable (x0 : Vec Ideal S5x32 .f32) (x1 : Vec Ideal S5x32x128x256 .fp8e4m3) (x2 : Vec Ideal S5x32x128 .f32) (x3 : Vec Ideal S5x32x128x256 .f32)

/-- Loading the whole array of decays reads it. -/
theorem ld0 : View.ld x0 r0_1 = x0 := View.ld_unit_lit _ x0 (by decide)
/-- Loading a whole array of states reads it. -/
theorem ld1 {e : EltTy} (x : Vec Ideal S5x32x128x256 e) : View.ld x r0_0 = x := View.ld_unit_lit _ x (by decide)
/-- Loading the whole array of scales reads it. -/
theorem ld2 : View.ld x2 r0_2 = x2 := View.ld_unit_lit _ x2 (by decide)

/-- The first output is the codes, widened. -/
theorem out4 : out0_4 x0 x1 x2 x3 = k0_pay3 (F := Ideal) x1 := by
  unfold_out out0_4
  exact (View.canon_cons_unit_lit _ _ [] (by decide)).trans (congrArg _ (ld1 x1))

/-- The second output is the new codes of the whole arrays. -/
theorem out5 : out0_5 x0 x1 x2 x3 = k0_pay2 (F := Ideal) (k0_pay4 x0 x1 x2 x3) (k0_pay5 x0 x1 x2 x3) (k0_pay6 x0 x1 x2 x3) k0_pay7 := by
  unfold_out out0_5
  refine (View.canon_cons_unit_lit _ _ [] (by decide)).trans ?_
  simp only [ld0, ld1, ld2]

/-- The third output is the new scales of the whole arrays. -/
theorem out6 : out0_6 x0 x1 x2 x3 = k0_pay1 (F := Ideal) (k0_pay5 x0 x1 x2 x3) (k0_pay6 x0 x1 x2 x3) k0_pay7 := by
  unfold_out out0_6
  refine (View.canon_cons_unit_lit _ _ [] (by decide)).trans ?_
  simp only [ld0, ld1, ld2]
end

/-- The launch leaves the widened codes. -/
theorem arr4 (c : Dev nD) : (dats m 0 c).arrAt 4 cfg0.N = k0_pay3 (F := Ideal) (V m c main_arg4) := by
  refine (dats m 0 c).arrAt_eq_of_covers 4 _ (by decide +kernel) fun t hf y => ?_
  blk_simp
  rw [after0_4, iblk0, iblk1, iblk2, iblk3, out4]
  exact congrArg (k0_pay3 (F := Ideal) (V m c main_arg4)) (emb4 t y).symm

/-- The launch leaves the new codes. -/
theorem arr5 (c : Dev nD) : (dats m 0 c).arrAt 5 cfg0.N = k0_pay2 (F := Ideal)
    (k0_pay4 (V m c main_v8) (V m c main_arg4) (V m c main_arg5) (V m c main_arg6))
    (k0_pay5 (V m c main_v8) (V m c main_arg4) (V m c main_arg5) (V m c main_arg6))
    (k0_pay6 (V m c main_v8) (V m c main_arg4) (V m c main_arg5) (V m c main_arg6)) k0_pay7 := by
  refine (dats m 0 c).arrAt_eq_of_covers 5 _ (by decide +kernel) fun t hf y => ?_
  blk_simp
  rw [after0_5, iblk0, iblk1, iblk2, iblk3, out5]
  exact congrArg (k0_pay2 (F := Ideal) _ _ _ _) (emb5 t y).symm

/-- The launch leaves the new scales. -/
theorem arr6 (c : Dev nD) : (dats m 0 c).arrAt 6 cfg0.N = k0_pay1 (F := Ideal)
    (k0_pay5 (V m c main_v8) (V m c main_arg4) (V m c main_arg5) (V m c main_arg6))
    (k0_pay6 (V m c main_v8) (V m c main_arg4) (V m c main_arg5) (V m c main_arg6)) k0_pay7 := by
  refine (dats m 0 c).arrAt_eq_of_covers 6 _ (by decide +kernel) fun t hf y => ?_
  blk_simp
  rw [after0_6, iblk0, iblk1, iblk2, iblk3, out6]
  exact congrArg (k0_pay1 (F := Ideal) _ _ _) (emb6 t y).symm

end Cert.ReferenceIdeal.Val
-- ==== Proof.RefHost.lean ====
/-
  The reference's host arrays, entry by entry: the decays, the last token's decays and the corrected y.
-/
module

public import proofs.«01_k».proof.Proof.RefBlocks

@[expose] public section

set_option maxRecDepth 16384

noncomputable section

namespace Cert.ReferenceIdeal.Val
open Cert.Spec Cert.ReferenceIdeal Cert.ReferenceIdeal.Gen Idealize.ShloMosaic Idealize.ShloMosaic.TcCoe Idealize.SL.Sem Pipeline
open Idealize.ShloMosaic.ValueIdx (contrEquiv1 contrEquiv1_symm_val)

/-- The decays at every token, over the rates' logarithms and the time steps. -/
def decays (a : FVec Ideal S32 .f32) (d : FVec Ideal S5x12288x32 .f32) : FVec Ideal S5x12288x32 .f32 :=
  Host.exp (Host.reduceWindowAdd ![1, 12288, 1] ![1, 1, 1] ![0, 12287, 0] ![0, 0, 0]
    (mulf (broadcastInDim S5x12288x32 ![0, 1, 2] bcast_S1x1x32_S5x12288x32_0_1_2 (broadcastInDim S1x1x32 ![2] bcast_S32_S1x1x32_2 (Host.negf (Host.exp a)))) d)
    (broadcastInDim S_ ![] bcast_S_S_ (constant S_ .f32 0x00000000#32)) reduceWindows_S5x12288x32_S5x12288x32_w1s1p0_0_w12288s1p12287_0_w1s1p0_0 h_S_)

/-- A token's decay is the exponential of the running sum up to it. -/
theorem decays_apply (a : FVec Ideal S32 .f32) (d : FVec Ideal S5x12288x32 .f32) (b : Fin 5) (s : Fin 12288) (h : Fin 32) :
    decays a d (ix3 b s h) = Ideal.exp (run (fun h => a (ix1 h)) (fun b s h => d (ix3 b s h)) b h (s.val + 1)) := by
  have ha : ∀ i : Fin 12288, broadcastInDim S5x12288x32 ![0, 1, 2] bcast_S1x1x32_S5x12288x32_0_1_2 (broadcastInDim S1x1x32 ![2] bcast_S32_S1x1x32_2 (Host.negf (Host.exp a))) (ix3 b i h)
      = -Ideal.exp (a (ix1 h)) := fun i => by
    pointwise
  unfold decays
  generalize broadcastInDim S5x12288x32 ![0, 1, 2] bcast_S1x1x32_S5x12288x32_0_1_2 (broadcastInDim S1x1x32 ![2] bcast_S32_S1x1x32_2 (Host.negf (Host.exp a))) = w at ha ⊢
  have hx : ∀ i : Fin 12288, mulf w d (ix3 b i h) = term (fun h => a (ix1 h)) (fun b s h => d (ix3 b s h)) b h i.val := fun i => by
    rw [mulf_apply, ha, term, dif_pos i.isLt]; rfl
  have hc := RefScan.cumsum (mulf w d) (broadcastInDim S_ ![] bcast_S_S_ (constant (F := Ideal) S_ .f32 0x00000000#32) : FVec Ideal S_ .f32) (fun _ => Ideal.ofBits_zero_f32)
    reduceWindows_S5x12288x32_S5x12288x32_w1s1p0_0_w12288s1p12287_0_w1s1p0_0 h_S_ b s h _ hx
  generalize Host.reduceWindowAdd (F := Ideal) (φ := .f32) ![1, 12288, 1] ![1, 1, 1] ![0, 12287, 0] ![0, 0, 0] (mulf w d) _ _ _ = z at hc ⊢
  exact congrArg Ideal.exp hc

/-- The last token's decays. -/
def lasts (v : FVec Ideal S5x12288x32 .f32) : FVec Ideal S5x32 .f32 :=
  shapeCast S5x32 (extractStridedSlice S5x1x32 ![0, 12287, 0] v slices_S5x12288x32_S5x1x32_0_12287_0) shapeCasts_S5x1x32_S5x32

/-- They are read at the last token. -/
theorem lasts_apply (v : FVec Ideal S5x12288x32 .f32) (b : Fin 5) (h : Fin 32) : lasts v (ix2 b h) = v (ix3 b 12287 h) := by
  refine (shapeCast_apply _ _ _ (ix3 b 0 h) ?_).trans ?_
  · rw [Shape.rowMajor_val_three, Shape.rowMajor_val_two]; simp [ix2, ix3]
  · refine congrArg v ?_
    funext a; apply Fin.ext
    match a with
    | ⟨0, _⟩ => exact Nat.zero_add _
    | ⟨1, _⟩ => rfl
    | ⟨2, _⟩ => exact Nat.zero_add _

/-- The corrected y, over the incoming y, the reading rows, the widened codes, the scales and the decays. -/
def corrected (y : FVec Ideal S5x12288x4096 .bf16) (cc : FVec Ideal S5x12288x4x256 .bf16) (x : FVec Ideal S5x32x128x256 .bf16)
    (sc : FVec Ideal S5x32x128 .f32) (v : FVec Ideal S5x12288x32 .f32) : FVec Ideal S5x12288x4096 .bf16 :=
  truncf .bf16 (addf (extf .f32 y bitsLt_bf16_f32) (shapeCast S5x12288x4096 (mulf (mulf
    (shapeCast S5x12288x32x128 (transpose S5x12288x4x8x128 [0, 4, 1, 2, 3]
      (Host.dotGeneral dot_S5x4x8x128x256_S5x12288x4x256_S5x4x8x128x12288_4_3_23_1_01_02 none
        (shapeCast S5x4x8x128x256 x shapeCasts_S5x32x128x256_S5x4x8x128x256) cc : FVec Ideal S5x4x8x128x12288 .f32)
      transposes_S5x4x8x128x12288_S5x12288x4x8x128_0_4_1_2_3) shapeCasts_S5x12288x4x8x128_S5x12288x32x128)
    (broadcastInDim S5x12288x32x128 ![0, 1, 2, 3] bcast_S5x1x32x128_S5x12288x32x128_0_1_2_3 (broadcastInDim S5x1x32x128 ![0, 2, 3] bcast_S5x32x128_S5x1x32x128_0_2_3 sc)))
    (broadcastInDim S5x12288x32x128 ![0, 1, 2, 3] bcast_S5x12288x32x1_S5x12288x32x128_0_1_2_3 (broadcastInDim S5x12288x32x1 ![0, 1, 2] bcast_S5x12288x32_S5x12288x32x1_0_1_2 v)))
    shapeCasts_S5x12288x32x128_S5x12288x4096)) bitsLt_bf16_f32

/-- The contraction of the codes with the reading rows is the sum over the state's coordinates. -/
theorem dot_apply (x : FVec Ideal S5x4x8x128x256 .bf16) (cc : FVec Ideal S5x12288x4x256 .bf16) (b : Fin 5) (g : Fin 4) (r : Fin 8) (p : Fin 128) (s : Fin 12288) :
    (Host.dotGeneral dot_S5x4x8x128x256_S5x12288x4x256_S5x4x8x128x12288_4_3_23_1_01_02 none x cc : FVec Ideal S5x4x8x128x12288 .f32) (ix5 b g r p s)
      = ∑ n : Fin 256, x (ix5 b g r p n) * cc (ix4 b s g n) := by
  show FloatOps.dotGeneral _ none _ x cc (ix5 b g r p s) = _
  rw [Ideal.dotGeneral_apply,
    ← Equiv.sum_comp (contrEquiv1 dot_S5x4x8x128x256_S5x12288x4x256_S5x4x8x128x12288_4_3_23_1_01_02 256 rfl rfl).symm]
  refine Finset.sum_congr rfl fun n _ => ?_
  have cn := contrEquiv1_symm_val dot_S5x4x8x128x256_S5x12288x4x256_S5x4x8x128x12288_4_3_23_1_01_02 256 rfl rfl n
  refine congrArg₂ (· * ·) (congrArg x ?_) (congrArg cc ?_)
  · funext ax; apply Fin.ext
    match ax with
    | ⟨0, _⟩ => simp [DotDims.lhsIdx, dot_S5x4x8x128x256_S5x12288x4x256_S5x4x8x128x12288_4_3_23_1_01_02]; rfl
    | ⟨1, _⟩ => simp [DotDims.lhsIdx, dot_S5x4x8x128x256_S5x12288x4x256_S5x4x8x128x12288_4_3_23_1_01_02]; rfl
    | ⟨2, _⟩ => simp [DotDims.lhsIdx, dot_S5x4x8x128x256_S5x12288x4x256_S5x4x8x128x12288_4_3_23_1_01_02]; rfl
    | ⟨3, _⟩ => simp [DotDims.lhsIdx, dot_S5x4x8x128x256_S5x12288x4x256_S5x4x8x128x12288_4_3_23_1_01_02]; rfl
    | ⟨4, _⟩ => simp [DotDims.lhsIdx, dot_S5x4x8x128x256_S5x12288x4x256_S5x4x8x128x12288_4_3_23_1_01_02]; exact cn
  · funext ax; apply Fin.ext
    match ax with
    | ⟨0, _⟩ => simp [DotDims.rhsIdx, dot_S5x4x8x128x256_S5x12288x4x256_S5x4x8x128x12288_4_3_23_1_01_02]; rfl
    | ⟨1, _⟩ => simp [DotDims.rhsIdx, dot_S5x4x8x128x256_S5x12288x4x256_S5x4x8x128x12288_4_3_23_1_01_02]; rfl
    | ⟨2, _⟩ => simp [DotDims.rhsIdx, dot_S5x4x8x128x256_S5x12288x4x256_S5x4x8x128x12288_4_3_23_1_01_02]; rfl
    | ⟨3, _⟩ => simp [DotDims.rhsIdx, dot_S5x4x8x128x256_S5x12288x4x256_S5x4x8x128x12288_4_3_23_1_01_02]; exact cn

/-- The read-out of a head's channel at a token. -/
theorem read_apply (x : FVec Ideal S5x32x128x256 .bf16) (cc : FVec Ideal S5x12288x4x256 .bf16) (b : Fin 5) (s : Fin 12288) (h : Fin 32) (p : Fin 128) :
    shapeCast S5x12288x32x128 (transpose S5x12288x4x8x128 [0, 4, 1, 2, 3]
      (Host.dotGeneral dot_S5x4x8x128x256_S5x12288x4x256_S5x4x8x128x12288_4_3_23_1_01_02 none
        (shapeCast S5x4x8x128x256 x shapeCasts_S5x32x128x256_S5x4x8x128x256) cc : FVec Ideal S5x4x8x128x12288 .f32)
      transposes_S5x4x8x128x12288_S5x12288x4x8x128_0_4_1_2_3) shapeCasts_S5x12288x4x8x128_S5x12288x32x128 (ix4 b s h p)
      = ∑ n : Fin 256, cc (ix4 b s ⟨h.val / 8, by omega⟩ n) * x (ix4 b h p n) := by
  refine (shapeCast_apply _ _ _ (ix5 b s (⟨h.val / 8, by omega⟩ : Fin 4) (⟨h.val % 8, by omega⟩ : Fin 8) p) ?_).trans ?_
  · rw [Shape.rowMajor_val_five, Shape.rowMajor_val_four]; simp [ix4, ix5]; omega
  have e : transpose S5x12288x4x8x128 [0, 4, 1, 2, 3] (Host.dotGeneral dot_S5x4x8x128x256_S5x12288x4x256_S5x4x8x128x12288_4_3_23_1_01_02 none
        (shapeCast S5x4x8x128x256 x shapeCasts_S5x32x128x256_S5x4x8x128x256) cc : FVec Ideal S5x4x8x128x12288 .f32)
      transposes_S5x4x8x128x12288_S5x12288x4x8x128_0_4_1_2_3 (ix5 b s (⟨h.val / 8, by omega⟩ : Fin 4) (⟨h.val % 8, by omega⟩ : Fin 8) p)
      = (Host.dotGeneral dot_S5x4x8x128x256_S5x12288x4x256_S5x4x8x128x12288_4_3_23_1_01_02 none
        (shapeCast S5x4x8x128x256 x shapeCasts_S5x32x128x256_S5x4x8x128x256) cc : FVec Ideal S5x4x8x128x12288 .f32) (ix5 b (⟨h.val / 8, by omega⟩ : Fin 4) (⟨h.val % 8, by omega⟩ : Fin 8) p s) := by
    refine congrArg (Host.dotGeneral _ none _ cc : FVec Ideal S5x4x8x128x12288 .f32) ?_
    funext a; apply Fin.ext
    match a with
    | ⟨0, _⟩ => rfl
    | ⟨1, _⟩ => rfl
    | ⟨2, _⟩ => rfl
    | ⟨3, _⟩ => rfl
    | ⟨4, _⟩ => rfl
  rw [e, dot_apply]
  refine Finset.sum_congr rfl fun n _ => ?_
  rw [mul_comm]
  refine congrArg₂ (· * ·) rfl (shapeCast_apply _ _ _ (ix4 b h p n) ?_)
  rw [Shape.rowMajor_val_five, Shape.rowMajor_val_four]; simp [ix4, ix5]; omega

/-- The corrected y at an entry. -/
theorem corrected_apply (y : FVec Ideal S5x12288x4096 .bf16) (cc : FVec Ideal S5x12288x4x256 .bf16) (x : FVec Ideal S5x32x128x256 .bf16)
    (sc : FVec Ideal S5x32x128 .f32) (v : FVec Ideal S5x12288x32 .f32) (b : Fin 5) (s : Fin 12288) (q : Fin 4096) :
    corrected y cc x sc v (ix3 b s q) = y (ix3 b s q)
      + (∑ n : Fin 256, cc (ix4 b s ⟨q.val / 1024, by omega⟩ n) * x (ix4 b ⟨q.val / 128, by omega⟩ ⟨q.val % 128, by omega⟩ n))
        * sc (ix3 b ⟨q.val / 128, by omega⟩ ⟨q.val % 128, by omega⟩) * v (ix3 b s ⟨q.val / 128, by omega⟩) := by
  refine congrArg (y (ix3 b s q) + ·) ?_
  refine (shapeCast_apply _ _ _ (ix4 b s (⟨q.val / 128, by omega⟩ : Fin 32) (⟨q.val % 128, by omega⟩ : Fin 128)) ?_).trans ?_
  · rw [Shape.rowMajor_val_four, Shape.rowMajor_val_three]; simp [ix4, ix3]; omega
  rw [mulf_apply, mulf_apply, read_apply]
  refine congrArg₂ (· * ·) (congrArg₂ (· * ·) (Finset.sum_congr rfl fun n _ => ?_) ?_) ?_
  · refine congrArg (fun g => cc (ix4 b s g n) * _) (Fin.ext ?_)
    show q.val / 128 / 8 = q.val / 1024
    omega
  · refine congrArg sc ?_
    funext a; apply Fin.ext
    match a with
    | ⟨0, _⟩ => rfl
    | ⟨1, _⟩ => rfl
    | ⟨2, _⟩ => rfl
  · refine congrArg v ?_
    funext a; apply Fin.ext
    match a with
    | ⟨0, _⟩ => rfl
    | ⟨1, _⟩ => rfl
    | ⟨2, _⟩ => rfl

end Cert.ReferenceIdeal.Val
-- ==== Proof.RefOut.lean ====
/-
  The reference's three results, over its arguments.
-/
module

public import proofs.«01_k».proof.Proof.RefHost

@[expose] public section

set_option maxRecDepth 16384

noncomputable section

namespace Cert.ReferenceIdeal.Val
open Cert.Spec Cert.ReferenceIdeal Cert.ReferenceIdeal.Gen Idealize.ShloMosaic Idealize.ShloMosaic.TcCoe Idealize.SL.Sem Pipeline
variable (m : (ℓ : Loc nD τ sig) → Buf (Elt Ideal) ℓ)

/-- The host lines before the launch leave the decays. -/
theorem v6_eq (c : Dev nD) : V m c main_v6 = decays (m ((c : Thread nD τ).loc main_arg3)) (m ((c : Thread nD τ).loc main_arg2)) := by
  show StableHlo.after [_,_,_,_,_,_,_,_,_,_,_] _ _ = _
  after_results
  rfl

/-- And the last token's decays. -/
theorem v8_eq (c : Dev nD) : V m c main_v8 = lasts (decays (m ((c : Thread nD τ).loc main_arg3)) (m ((c : Thread nD τ).loc main_arg2))) := by
  show StableHlo.after [_,_,_,_,_,_,_,_,_,_,_] _ _ = _
  after_results
  rfl

/-- The host's view of the launch's arrays: at the widened codes. -/
theorem at_v9_0 (c : Dev nD) : withArrays (cfgs 0).spec c (V0 m c) (fun w => (dats m 0 c).arrAt w (cfgs 0).N) (Proc.tc.devRef main_v9_0)
    = (dats m 0 c).arrAt 4 cfg0.N := withArrays_arr (cfgs 0).spec launch0.win.arr_inj c (V0 m c) _ 4
/-- At the incoming scales. -/
theorem at_arg5 (c : Dev nD) : withArrays (cfgs 0).spec c (V0 m c) (fun w => (dats m 0 c).arrAt w (cfgs 0).N) (Proc.tc.devRef main_arg5)
    = m ((c : Thread nD τ).loc main_arg5) := (withArrays_arr (cfgs 0).spec launch0.win.arr_inj c (V0 m c) _ 2).trans
      (((dats m 0 c).arrAt_in 2 rfl _).trans ((A_eq m c 2).trans (V_main_arg5 m c)))
/-- At the incoming y. -/
theorem at_arg0 (c : Dev nD) : withArrays (cfgs 0).spec c (V0 m c) (fun w => (dats m 0 c).arrAt w (cfgs 0).N) (Proc.tc.devRef main_arg0)
    = m ((c : Thread nD τ).loc main_arg0) := (withArrays_of_ne (cfgs 0).spec c (V0 m c) _ main_arg0 (by exact (by decide : ∀ w, Pipeline.arrRef spec0 w ≠ main_arg0))).trans (V_main_arg0 m c)
/-- At the reading rows. -/
theorem at_arg1 (c : Dev nD) : withArrays (cfgs 0).spec c (V0 m c) (fun w => (dats m 0 c).arrAt w (cfgs 0).N) (Proc.tc.devRef main_arg1)
    = m ((c : Thread nD τ).loc main_arg1) := (withArrays_of_ne (cfgs 0).spec c (V0 m c) _ main_arg1 (by exact (by decide : ∀ w, Pipeline.arrRef spec0 w ≠ main_arg1))).trans (V_main_arg1 m c)
/-- At the decays. -/
theorem at_v6 (c : Dev nD) : withArrays (cfgs 0).spec c (V0 m c) (fun w => (dats m 0 c).arrAt w (cfgs 0).N) (Proc.tc.devRef main_v6)
    = V m c main_v6 := withArrays_of_ne (cfgs 0).spec c (V0 m c) _ main_v6 (by exact (by decide : ∀ w, Pipeline.arrRef spec0 w ≠ main_v6))

/-- The host lines after the launch leave the corrected y. -/
theorem tail_v23 (c : Dev nD) : Pipeline.afterTail₀ cfgs (dats m) 0 (V0 m) [hostOps1] c main_v23
    = corrected (m ((c : Thread nD τ).loc main_arg0)) (m ((c : Thread nD τ).loc main_arg1)) (k0_pay3 (F := Ideal) (m ((c : Thread nD τ).loc main_arg4)))
        (m ((c : Thread nD τ).loc main_arg5)) (decays (m ((c : Thread nD τ).loc main_arg3)) (m ((c : Thread nD τ).loc main_arg2))) := by
  have e4 := (at_v9_0 m c).trans ((arr4 m c).trans (congrArg (k0_pay3 (F := Ideal)) (V_main_arg4 m c)))
  have e6 := (at_v6 m c).trans (v6_eq m c)
  unfold Pipeline.afterTail₀
  show StableHlo.after [_,_,_,_,_,_,_,_,_,_,_,_,_,_] _ _ = _
  after_results
  rw [e4, e6, at_arg0, at_arg1, at_arg5]
  rfl

/-- The arguments, entry by entry: the incoming y. -/
def argY (c : Dev nD) (b : Fin 5) (s : Fin 12288) (q : Fin 4096) : EReal := m ((c : Thread nD τ).loc main_arg0) (ix3 b s q)
/-- The reading rows. -/
def argC (c : Dev nD) (b : Fin 5) (s : Fin 12288) (g : Fin 4) (n : Fin 256) : EReal := m ((c : Thread nD τ).loc main_arg1) (ix4 b s g n)
/-- The time steps. -/
def argD (c : Dev nD) (b : Fin 5) (s : Fin 12288) (h : Fin 32) : EReal := m ((c : Thread nD τ).loc main_arg2) (ix3 b s h)
/-- The rates' logarithms. -/
def argA (c : Dev nD) (h : Fin 32) : EReal := m ((c : Thread nD τ).loc main_arg3) (ix1 h)
/-- The incoming codes. -/
def argX (c : Dev nD) (b : Fin 5) (h : Fin 32) (r : Fin 128) (k : Fin 256) : EReal := m ((c : Thread nD τ).loc main_arg4) (ix4 b h r k)
/-- The incoming scales. -/
def argS (c : Dev nD) (b : Fin 5) (h : Fin 32) (r : Fin 128) : EReal := m ((c : Thread nD τ).loc main_arg5) (ix3 b h r)
/-- The local states. -/
def argH (c : Dev nD) (b : Fin 5) (h : Fin 32) (r : Fin 128) (k : Fin 256) : EReal := m ((c : Thread nD τ).loc main_arg6) (ix4 b h r k)

/-- The reference's corrected y. -/
theorem final23 (c : Dev nD) : Pipeline.afterTail₀ cfgs (dats m) 0 (V0 m) [hostOps1] c main_v23
    = fun i => yout (argY m c) (argC m c) (argA m c) (argD m c) (argX m c) (argS m c) (i 0) (i 1) (i 2) := by
  rw [tail_v23]
  funext i
  obtain ⟨b, s, q, rfl⟩ : ∃ (b : Fin 5) (s : Fin 12288) (q : Fin 4096), i = ix3 b s q := ⟨i 0, i 1, i 2, by pointwise⟩
  refine (corrected_apply _ _ _ _ _ b s q).trans ?_
  rw [decays_apply]
  rfl

/-- The state the reference quantises. -/
theorem state_eq (c : Dev nD) (b : Fin 5) (h : Fin 32) (r : Fin 128) (k : Fin 256) :
    k0_pay4 (F := Ideal) (V m c main_v8) (V m c main_arg4) (V m c main_arg5) (V m c main_arg6) (ix4 b h r k)
      = state (argA m c) (argD m c) (argX m c) (argS m c) (argH m c) b h r k := by
  refine (pay4_apply _ _ _ _ b h r k).trans ?_
  rw [v8_eq, lasts_apply, decays_apply, V_main_arg4, V_main_arg5, V_main_arg6]
  rfl

/-- The reference's codes. -/
theorem final5 (c : Dev nD) : (dats m 0 c).arrAt 5 cfg0.N
    = fun i => qcode (state (argA m c) (argD m c) (argX m c) (argS m c) (argH m c) (i 0) (i 1) (i 2)) (i 3) := by
  rw [arr5]
  funext i
  obtain ⟨b, h, r, k, rfl⟩ : ∃ (b : Fin 5) (h : Fin 32) (r : Fin 128) (k : Fin 256), i = ix4 b h r k := ⟨i 0, i 1, i 2, i 3, by pointwise⟩
  exact code_spec _ _ _ _ _ b h r k fun k => state_eq m c b h r k

/-- The reference's scales. -/
theorem final6 (c : Dev nD) : (dats m 0 c).arrAt 6 cfg0.N
    = fun i => qscale (state (argA m c) (argD m c) (argX m c) (argS m c) (argH m c) (i 0) (i 1) (i 2)) := by
  rw [arr6]
  funext i
  obtain ⟨b, h, r, rfl⟩ : ∃ (b : Fin 5) (h : Fin 32) (r : Fin 128), i = ix3 b h r := ⟨i 0, i 1, i 2, by pointwise⟩
  exact scale_spec _ _ _ _ _ b h r fun k => state_eq m c b h r k

/-- Every run of the reference ends with the three results so and its arguments kept. -/
theorem run_spec (ρ : Dev nD → PrngReg) : θ_run defs (onTc (τ := τ) (main (F := Ideal))) ⟨m, fun _ => 0, ρ⟩ (fun r => ∀ c : Dev nD,
      r.2.mem ((c.tc : Thread nD τ).loc main_v23) = (fun i => yout (argY m c) (argC m c) (argA m c) (argD m c) (argX m c) (argS m c) (i 0) (i 1) (i 2))
      ∧ r.2.mem ((c.tc : Thread nD τ).loc main_v9_1) = (fun i => qcode (state (argA m c) (argD m c) (argX m c) (argS m c) (argH m c) (i 0) (i 1) (i 2)) (i 3))
      ∧ r.2.mem ((c.tc : Thread nD τ).loc main_v9_2) = (fun i => qscale (state (argA m c) (argD m c) (argX m c) (argS m c) (argH m c) (i 0) (i 1) (i 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v23 (Pipeline.mem_restRefs_of main_v23 (by decide) (by decide))).trans (final23 m c),
      ((h c).1 5).trans (final5 m c),
      ((h c).1 6).trans (final6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c)))⟩) (run_main m ρ)

end Cert.ReferenceIdeal.Val
-- ==== Proof.Algebraic.lean ====
/-
  The kernel and the reference leave the same three results.
-/
module

public import proofs.«01_k».proof.Defs
public import proofs.«01_k».proof.Proof.Gen.KernelIdeal.Value
public import proofs.«01_k».proof.Proof.Final
public import proofs.«01_k».proof.Proof.RefOut

@[expose] public section

set_option maxRecDepth 16384

noncomputable section

namespace Cert.Spec
open Idealize.ShloMosaic Idealize.ShloMosaic.TcCoe Idealize.SL.Sem

/-- From memories agreeing on the arguments, the kernel and the reference end with equal results: both are the corrected y,
    the codes and the scales of the specification. -/
theorem algebraic : algebraic_KernelIdeal_ReferenceIdeal (hKernelIdeal := Cert.KernelIdeal.Gen.facts) (hReferenceIdeal := Cert.ReferenceIdeal.Gen.facts) := by
  intro m g m' g' _ hargs
  refine ⟨fun c i => yout (KernelIdeal.Val.argY m c) (KernelIdeal.Val.argC m c) (KernelIdeal.Val.argA m c) (KernelIdeal.Val.argD m c)
      (KernelIdeal.Val.argX m c) (KernelIdeal.Val.argS m c) (i 0) (i 1) (i 2),
    fun c i => qcode (state (KernelIdeal.Val.argA m c) (KernelIdeal.Val.argD m c) (KernelIdeal.Val.argX m c) (KernelIdeal.Val.argS m c)
      (KernelIdeal.Val.argH m c) (i 0) (i 1) (i 2)) (i 3),
    fun c i => qscale (state (KernelIdeal.Val.argA m c) (KernelIdeal.Val.argD m c) (KernelIdeal.Val.argX m c) (KernelIdeal.Val.argS m c)
      (KernelIdeal.Val.argH m c) (i 0) (i 1) (i 2)), ?_, ?_⟩
  · exact (θ_run KernelIdeal.defs _ _).mono (fun r h c => ⟨(h c).1.trans (KernelIdeal.Val.final7 m c),
      (h c).2.1.trans (KernelIdeal.Val.final8 m c), (h c).2.2.1.trans (KernelIdeal.Val.final9 m c), (h c).2.2.2⟩) (KernelIdeal.Value.run_blocks m g)
  · refine (θ_run ReferenceIdeal.defs _ _).mono (fun r h c => ?_) (ReferenceIdeal.Val.run_spec m' g')
    obtain ⟨a0, a1, a2, a3, a4, a5, a6⟩ := hargs c
    have hY : ReferenceIdeal.Val.argY m' c = KernelIdeal.Val.argY m c := funext fun b => funext fun s => funext fun q => congrFun a0 (ix3 b s q)
    have hC : ReferenceIdeal.Val.argC m' c = KernelIdeal.Val.argC m c := funext fun b => funext fun s => funext fun g => funext fun n => congrFun a1 (ix4 b s g n)
    have hD : ReferenceIdeal.Val.argD m' c = KernelIdeal.Val.argD m c := funext fun b => funext fun s => funext fun h => congrFun a2 (ix3 b s h)
    have hA : ReferenceIdeal.Val.argA m' c = KernelIdeal.Val.argA m c := funext fun h => congrFun a3 (ix1 h)
    have hX : ReferenceIdeal.Val.argX m' c = KernelIdeal.Val.argX m c := funext fun b => funext fun h => funext fun r => funext fun k => congrFun a4 (ix4 b h r k)
    have hS : ReferenceIdeal.Val.argS m' c = KernelIdeal.Val.argS m c := funext fun b => funext fun h => funext fun r => congrFun a5 (ix3 b h r)
    have hH : ReferenceIdeal.Val.argH m' c = KernelIdeal.Val.argH m c := funext fun b => funext fun h => funext fun r => funext fun k => congrFun a6 (ix4 b h r k)
    have hc := h c
    rw [hY, hC, hA, hD, hX, hS, hH] at hc
    exact hc

end Cert.Spec
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Algebraic
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The five claims: the three frames, the rewriting of the paired rows, and the equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, by
  exact ⟨IdealRules.bf16_pair.statement _ _, IdealRules.bf16_pair.statement _ _⟩, Cert.Spec.algebraic⟩

end Cert.Proof

end
